-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_and_labels_in_range [hPre_scores_and_labels_in_range : Cert.Pre_scores_and_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_and_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_and_labels_in_range [hPre_scores_and_labels_in_range : Cert.Pre_scores_and_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_and_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_and_labels_in_range [hKernelIdeal : Cert.KernelIdeal.Facts] [hPre_scores_and_labels_in_range : Cert.Pre_scores_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_and_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_and_labels_in_range [hReferenceIdeal : Cert.ReferenceIdeal.Facts] [hPre_scores_and_labels_in_range : Cert.Pre_scores_and_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_and_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scores_and_labels_in_range [hKernelIdeal : Cert.KernelIdeal.Facts] [hReferenceIdeal : Cert.ReferenceIdeal.Facts] [hPre_scores_and_labels_in_range : Cert.Pre_scores_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_and_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_v338) = v1 c
          ∧ r.2.mem ((c.tc : Thread Cert.ReferenceIdeal.nD Cert.ReferenceIdeal.τ).loc Cert.ReferenceIdeal.main_v341) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scores_and_labels_in_range : Cert.Pre_scores_and_labels_in_range.Facts),
    quiescent_Kernel (hKernel := hKernel)
    ∧ quiescent_KernelIdeal (hKernelIdeal := hKernelIdeal)
    ∧ quiescent_KernelIdeal_pre_scores_and_labels_in_range (hKernelIdeal := hKernelIdeal) (hPre_scores_and_labels_in_range := hPre_scores_and_labels_in_range)
    ∧ quiescent_ReferenceIdeal (hReferenceIdeal := hReferenceIdeal)
    ∧ quiescent_ReferenceIdeal_pre_scores_and_labels_in_range (hReferenceIdeal := hReferenceIdeal) (hPre_scores_and_labels_in_range := hPre_scores_and_labels_in_range)
    ∧ preserves_Kernel_KernelIdeal
    ∧ algebraic_KernelIdeal_ReferenceIdeal_pre_scores_and_labels_in_range (hKernelIdeal := hKernelIdeal) (hReferenceIdeal := hReferenceIdeal) (hPre_scores_and_labels_in_range := hPre_scores_and_labels_in_range)
-- ==== Pre_scores_and_labels_in_range.lean ====
abbrev S8x49104x80 : Shape := ⟨3, ![8, 49104, 80]⟩
abbrev S8x49104x4 : Shape := ⟨3, ![8, 49104, 4]⟩
abbrev S8x49104x1 : Shape := ⟨3, ![8, 49104, 1]⟩
abbrev S1x49104x4 : Shape := ⟨3, ![1, 49104, 4]⟩
abbrev S8x32x5 : Shape := ⟨3, ![8, 32, 5]⟩
abbrev S8x3x512x512 : Shape := ⟨4, ![8, 3, 512, 512]⟩
abbrev S8x32x1 : Shape := ⟨3, ![8, 32, 1]⟩
abbrev S8x32 : Shape := ⟨2, ![8, 32]⟩
abbrev S_ : Shape := ⟨0, ![]⟩

class Facts : Prop where
  slices_S8x32x5_S8x32x1_0_0_4 : S8x32x5.Slices ![0, 0, 4] S8x32x1
  shapeCasts_S8x32x1_S8x32 : S8x32x1.ShapeCasts S8x32
  bcast_S_S8x49104x80 : S_.BroadcastsInDim S8x49104x80 (![] : Fin 0 → Fin S8x49104x80.rank)
  reducesTo_S8x49104x80_S_d0_1_2 : S8x49104x80.ReducesTo [0, 1, 2] S_
  h_S_ : 0 < S_.numel
  bcast_S_S8x32 : S_.BroadcastsInDim S8x32 (![] : Fin 0 → Fin S8x32.rank)
  reducesTo_S8x32_S_d0_1 : S8x32.ReducesTo [0, 1] S_

variable [Facts]

def fn {F : FTy → Type} [FloatOps F] (main_arg0 : FVec F S8x49104x80 .f32) (main_arg1 : FVec F S8x49104x4 .f32) (main_arg2 : FVec F S8x49104x1 .f32) (main_arg3 : FVec F S1x49104x4 .f32) (main_arg4 : FVec F S8x32x5 .f32) (main_arg5 : FVec F S8x3x512x512 .f32) : IVec S_ 1 :=
  let main_v0 : FVec F S8x32x1 .f32 := (extractStridedSlice S8x32x1 ![0, 0, 4] · slices_S8x32x5_S8x32x1_0_0_4) main_arg4
  let main_v1 : FVec F S8x32 .f32 := shapeCast S8x32 main_v0 shapeCasts_S8x32x1_S8x32
  let main_v2 : IVec S8x32 32 := fptosi 32 main_v1
  let main_cst : FVec F S_ .f32 := constant S_ .f32 0x38D1B717#32
  let main_v3 : FVec F S8x49104x80 .f32 := broadcastInDim S8x49104x80 ![] bcast_S_S8x49104x80 main_cst
  let main_v4 : IVec S8x49104x80 1 := cmpf .oge main_arg0 main_v3
  let main_cst_0 : FVec F S_ .f32 := constant S_ .f32 0x3F7FF972#32
  let main_v5 : FVec F S8x49104x80 .f32 := broadcastInDim S8x49104x80 ![] bcast_S_S8x49104x80 main_cst_0
  let main_v6 : IVec S8x49104x80 1 := cmpf .ole main_arg0 main_v5
  let main_v7 : IVec S8x49104x80 1 := andi main_v4 main_v6
  let main_c : IVec S_ 1 := constantI S_ 1 1#1
  let main_v8 : IVec S_ 1 := (fun x v => Host.reduce IntOp.andi x v reducesTo_S8x49104x80_S_d0_1_2 h_S_) main_v7 main_c
  let main_c_1 : IVec S_ 32 := constantI S_ 32 0#32
  let main_v9 : IVec S8x32 32 := broadcastInDim S8x32 ![] bcast_S_S8x32 main_c_1
  let main_v10 : IVec S8x32 1 := cmpi .sge main_v2 main_v9
  let main_c_2 : IVec S_ 32 := constantI S_ 32 80#32
  let main_v11 : IVec S8x32 32 := broadcastInDim S8x32 ![] bcast_S_S8x32 main_c_2
  let main_v12 : IVec S8x32 1 := cmpi .slt main_v2 main_v11
  let main_v13 : IVec S8x32 1 := andi main_v10 main_v12
  let main_c_3 : IVec S_ 1 := constantI S_ 1 1#1
  let main_v14 : IVec S_ 1 := (fun x v => Host.reduce IntOp.andi x v reducesTo_S8x32_S_d0_1 h_S_) main_v13 main_c_3
  let main_v15 : IVec S_ 1 := andi main_v8 main_v14
  main_v15
-- ==== Kernel.lean ====
abbrev S8x49104x80 : Shape := ⟨3, ![8, 49104, 80]⟩
abbrev S8x49104x4 : Shape := ⟨3, ![8, 49104, 4]⟩
abbrev S8x49104x1 : Shape := ⟨3, ![8, 49104, 1]⟩
abbrev S1x49104x4 : Shape := ⟨3, ![1, 49104, 4]⟩
abbrev S8x32x5 : Shape := ⟨3, ![8, 32, 5]⟩
abbrev S8x3x512x512 : Shape := ⟨4, ![8, 3, 512, 512]⟩
abbrev S49104x4 : Shape := ⟨2, ![49104, 4]⟩
abbrev S4x49104 : Shape := ⟨2, ![4, 49104]⟩
abbrev S_ : Shape := ⟨0, ![]⟩
abbrev S1x49104 : Shape := ⟨2, ![1, 49104]⟩
abbrev S1x0x49104 : Shape := ⟨3, ![1, 0, 49104]⟩
abbrev S0x49104 : Shape := ⟨2, ![0, 49104]⟩
abbrev S4x1 : Shape := ⟨2, ![4, 1]⟩
abbrev S4x1x0 : Shape := ⟨3, ![4, 1, 0]⟩
abbrev S4x0 : Shape := ⟨2, ![4, 0]⟩
abbrev S4x1x48 : Shape := ⟨3, ![4, 1, 48]⟩
abbrev S4x48 : Shape := ⟨2, ![4, 48]⟩
abbrev S4x49152 : Shape := ⟨2, ![4, 49152]⟩
abbrev S8x4x49104 : Shape := ⟨3, ![8, 4, 49104]⟩
abbrev S8x4x49152 : Shape := ⟨3, ![8, 4, 49152]⟩
abbrev S8x1x49104 : Shape := ⟨3, ![8, 1, 49104]⟩
abbrev S8x1x49152 : Shape := ⟨3, ![8, 1, 49152]⟩
abbrev S8x5x32 : Shape := ⟨3, ![8, 5, 32]⟩
abbrev S1x1 : Shape := ⟨2, ![1, 1]⟩
abbrev S1x24576x80 : Shape := ⟨3, ![1, 24576, 80]⟩
abbrev S4x24576 : Shape := ⟨2, ![4, 24576]⟩
abbrev S1x32x5 : Shape := ⟨3, ![1, 32, 5]⟩
abbrev S1x5x32 : Shape := ⟨3, ![1, 5, 32]⟩
abbrev S1x4x24576 : Shape := ⟨3, ![1, 4, 24576]⟩
abbrev S1x1x24576 : Shape := ⟨3, ![1, 1, 24576]⟩
abbrev S2x24576 : Shape := ⟨2, ![2, 24576]⟩
abbrev S32x1 : Shape := ⟨2, ![32, 1]⟩
abbrev S1x24576 : Shape := ⟨2, ![1, 24576]⟩
abbrev S32x5 : Shape := ⟨2, ![32, 5]⟩
abbrev S32x24576 : Shape := ⟨2, ![32, 24576]⟩
abbrev S24576 : Shape := ⟨1, ![24576]⟩
abbrev S1 : Shape := ⟨1, ![1]⟩
abbrev S1x1x1 : Shape := ⟨3, ![1, 1, 1]⟩
abbrev S32 : Shape := ⟨1, ![32]⟩
abbrev S1x4x32 : Shape := ⟨3, ![1, 4, 32]⟩
abbrev S4x32 : Shape := ⟨2, ![4, 32]⟩
abbrev S24576x80 : Shape := ⟨2, ![24576, 80]⟩
abbrev S32x80 : Shape := ⟨2, ![32, 80]⟩
abbrev S1x80 : Shape := ⟨2, ![1, 80]⟩
abbrev S1x1x80 : Shape := ⟨3, ![1, 1, 80]⟩

abbrev nBuf : Space → Nat
  | .hbm => 35
  | .vmem => 29
  | .smem => 0
  | _ => 0

abbrev bufTy : (tb : Table) → Fin (tcTables nBuf tb) → BufTy
  | .hbm, ⟨0, _⟩ => ⟨S8x49104x80, .f32⟩
  | .hbm, ⟨1, _⟩ => ⟨S8x49104x4, .f32⟩
  | .hbm, ⟨2, _⟩ => ⟨S8x49104x1, .f32⟩
  | .hbm, ⟨3, _⟩ => ⟨S1x49104x4, .f32⟩
  | .hbm, ⟨4, _⟩ => ⟨S8x32x5, .f32⟩
  | .hbm, ⟨5, _⟩ => ⟨S8x3x512x512, .f32⟩
  | .hbm, ⟨6, _⟩ => ⟨S49104x4, .f32⟩
  | .hbm, ⟨7, _⟩ => ⟨S4x49104, .f32⟩
  | .hbm, ⟨8, _⟩ => ⟨S_, .i32⟩
  | .hbm, ⟨9, _⟩ => ⟨S1x49104, .f32⟩
  | .hbm, ⟨10, _⟩ => ⟨S1x0x49104, .f32⟩
  | .hbm, ⟨11, _⟩ => ⟨S0x49104, .f32⟩
  | .hbm, ⟨12, _⟩ => ⟨S1x49104, .f32⟩
  | .hbm, ⟨13, _⟩ => ⟨S1x0x49104, .f32⟩
  | .hbm, ⟨14, _⟩ => ⟨S0x49104, .f32⟩
  | .hbm, ⟨15, _⟩ => ⟨S4x49104, .f32⟩
  | .hbm, ⟨16, _⟩ => ⟨S4x1, .f32⟩
  | .hbm, ⟨17, _⟩ => ⟨S4x1x0, .f32⟩
  | .hbm, ⟨18, _⟩ => ⟨S4x0, .f32⟩
  | .hbm, ⟨19, _⟩ => ⟨S4x1, .f32⟩
  | .hbm, ⟨20, _⟩ => ⟨S4x1x48, .f32⟩
  | .hbm, ⟨21, _⟩ => ⟨S4x48, .f32⟩
  | .hbm, ⟨22, _⟩ => ⟨S4x49152, .f32⟩
  | .hbm, ⟨23, _⟩ => ⟨S8x4x49104, .f32⟩
  | .hbm, ⟨24, _⟩ => ⟨S_, .i32⟩
  | .hbm, ⟨25, _⟩ => ⟨S_, .f32⟩
  | .hbm, ⟨26, _⟩ => ⟨S8x4x49152, .f32⟩
  | .hbm, ⟨27, _⟩ => ⟨S8x1x49104, .f32⟩
  | .hbm, ⟨28, _⟩ => ⟨S_, .i32⟩
  | .hbm, ⟨29, _⟩ => ⟨S_, .f32⟩
  | .hbm, ⟨30, _⟩ => ⟨S8x1x49152, .f32⟩
  | .hbm, ⟨31, _⟩ => ⟨S8x5x32, .f32⟩
  | .hbm, ⟨32, _⟩ => ⟨S1x1, .f32⟩
  | .hbm, ⟨33, _⟩ => ⟨S1x1, .f32⟩
  | .hbm, ⟨34, _⟩ => ⟨S1x1, .f32⟩
  | .local _ .vmem, ⟨0, _⟩ => ⟨S1x24576x80, .f32⟩
  | .local _ .vmem, ⟨1, _⟩ => ⟨S1x24576x80, .f32⟩
  | .local _ .vmem, ⟨2, _⟩ => ⟨S4x24576, .f32⟩
  | .local _ .vmem, ⟨3, _⟩ => ⟨S4x24576, .f32⟩
  | .local _ .vmem, ⟨4, _⟩ => ⟨S1x32x5, .f32⟩
  | .local _ .vmem, ⟨5, _⟩ => ⟨S1x32x5, .f32⟩
  | .local _ .vmem, ⟨6, _⟩ => ⟨S1x5x32, .f32⟩
  | .local _ .vmem, ⟨7, _⟩ => ⟨S1x5x32, .f32⟩
  | .local _ .vmem, ⟨8, _⟩ => ⟨S1x4x24576, .f32⟩
  | .local _ .vmem, ⟨9, _⟩ => ⟨S1x4x24576, .f32⟩
  | .local _ .vmem, ⟨10, _⟩ => ⟨S1x32x5, .f32⟩
  | .local _ .vmem, ⟨11, _⟩ => ⟨S1x32x5, .f32⟩
  | .local _ .vmem, ⟨12, _⟩ => ⟨S1x4x24576, .f32⟩
  | .local _ .vmem, ⟨13, _⟩ => ⟨S1x4x24576, .f32⟩
  | .local _ .vmem, ⟨14, _⟩ => ⟨S1x1x24576, .f32⟩
  | .local _ .vmem, ⟨15, _⟩ => ⟨S1x1x24576, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S2x24576, .f32⟩
  | .local _ .vmem, ⟨20, _⟩ => ⟨S32x1, .f32⟩
  | .local _ .vmem, ⟨21, _⟩ => ⟨S32x1, .f32⟩
  | .local _ .vmem, ⟨22, _⟩ => ⟨S1x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | _, _ => ⟨S8x49104x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_call2_v0 : Ref sig .tc := ⟨.hbm, 29, rfl⟩
abbrev main_v6 : Ref sig .tc := ⟨.hbm, 30, rfl⟩
abbrev main_v7 : Ref sig .tc := ⟨.hbm, 31, rfl⟩
abbrev main_v8_0 : Ref sig .tc := ⟨.hbm, 32, rfl⟩
abbrev main_v8_1 : Ref sig .tc := ⟨.hbm, 33, rfl⟩
abbrev main_v8_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![9, 2], ![false, false]⟩

def k0_cond2 (i : grid0.Coords) : BitVec 1 :=
  let arg0 : BitVec 32 := BitVec.ofNat 32 (i 0).val
  let c1_i32 : BitVec 32 := 1#32
  let v17 : BitVec 1 := Scalar.cmpi .sge arg0 c1_i32
  let v18 : BitVec 32 := Scalar.extui v17
  let c0_i32_3 : BitVec 32 := 0#32
  let v19 : BitVec 1 := Scalar.cmpi .ne v18 c0_i32_3
  v19

def k0_off1 (i : grid0.Coords) : Fin 2 → Nat :=
  let arg1 : BitVec 32 := BitVec.ofNat 32 (i 1).val
  let v122 : Index := Scalar.indexCast arg1
  let c0_37 : Index := 0#32
  ![v122.toNat, 0]
def k0_cond5 (i : grid0.Coords) : BitVec 1 :=
  let arg0 : BitVec 32 := BitVec.ofNat 32 (i 0).val
  let c8_i32 : BitVec 32 := 8#32
  let v20 : BitVec 1 := Scalar.cmpi .slt arg0 c8_i32
  let v21 : BitVec 32 := Scalar.extui v20
  let c0_i32_4 : BitVec 32 := 0#32
  let v22 : BitVec 1 := Scalar.cmpi .ne v21 c0_i32_4
  v22

def k0_off2 (i : grid0.Coords) : Fin 2 → Nat :=
  let arg1 : BitVec 32 := BitVec.ofNat 32 (i 1).val
  let v110 : Index := Scalar.indexCast arg1
  let c0_25 : Index := 0#32
  ![v110.toNat, 0]
def k0_cond3 (i : grid0.Coords) : BitVec 1 :=
  let arg1 : BitVec 32 := BitVec.ofNat 32 (i 1).val
  let c1_i32_44 : BitVec 32 := 1#32
  let v138 : BitVec 1 := Scalar.cmpi .eq arg1 c1_i32_44
  let v139 : BitVec 32 := Scalar.extui v138
  let c0_i32_45 : BitVec 32 := 0#32
  let v140 : BitVec 1 := Scalar.cmpi .ne v139 c0_i32_45
  v140

def k0_cond4 (i : grid0.Coords) : BitVec 1 :=
  let arg0 : BitVec 32 := BitVec.ofNat 32 (i 0).val
  let c1_i32_60 : BitVec 32 := 1#32
  let v160 : BitVec 1 := Scalar.cmpi .eq arg0 c1_i32_60
  let v161 : BitVec 32 := Scalar.extui v160
  let c0_i32_61 : BitVec 32 := 0#32
  let v162 : BitVec 1 := Scalar.cmpi .ne v161 c0_i32_61
  v162

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c8_i32 : BitVec 32 := 8#32
  let v1 : BitVec 1 := Scalar.cmpi .slt arg0 c8_i32
  let c0_i32 : BitVec 32 := 0#32
  let v2 : BitVec 32 := Scalar.select v1 arg1 c0_i32
  let c0_i32_0 : BitVec 32 := 0#32
  let c0_i32_1 : BitVec 32 := 0#32
  ![v0.toNat, c0_i32_0.toNat, v2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![v1.toNat, c0_i32.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.maxsi arg0 c1_i32
  let c1_i32_0 : BitVec 32 := 1#32
  let v1 : BitVec 32 := Scalar.subi v0 c1_i32_0
  let c0_i32 : BitVec 32 := 0#32
  let c0_i32_1 : BitVec 32 := 0#32
  ![v1.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x24576x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x24576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x24576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x24576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x24576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S8x49104x80 : Shape := ⟨3, ![8, 49104, 80]⟩
abbrev S8x49104x4 : Shape := ⟨3, ![8, 49104, 4]⟩
abbrev S8x49104x1 : Shape := ⟨3, ![8, 49104, 1]⟩
abbrev S1x49104x4 : Shape := ⟨3, ![1, 49104, 4]⟩
abbrev S8x32x5 : Shape := ⟨3, ![8, 32, 5]⟩
abbrev S8x3x512x512 : Shape := ⟨4, ![8, 3, 512, 512]⟩
abbrev S4 : Shape := ⟨1, ![4]⟩
abbrev S1x49104x1 : Shape := ⟨3, ![1, 49104, 1]⟩
abbrev S49104 : Shape := ⟨1, ![49104]⟩
abbrev S8x32x1 : Shape := ⟨3, ![8, 32, 1]⟩
abbrev S8x32 : Shape := ⟨2, ![8, 32]⟩
abbrev S8 : Shape := ⟨1, ![8]⟩
abbrev S8x1 : Shape := ⟨2, ![8, 1]⟩
abbrev S_ : Shape := ⟨0, ![]⟩
abbrev S49104x1 : Shape := ⟨2, ![49104, 1]⟩
abbrev S8x1x32 : Shape := ⟨3, ![8, 1, 32]⟩
abbrev S8x49104x32 : Shape := ⟨3, ![8, 49104, 32]⟩
abbrev S8x49104 : Shape := ⟨2, ![8, 49104]⟩
abbrev S8x49104x2 : Shape := ⟨3, ![8, 49104, 2]⟩
abbrev S8x49104x5 : Shape := ⟨3, ![8, 49104, 5]⟩
abbrev S1x1x80 : Shape := ⟨3, ![1, 1, 80]⟩
abbrev S1x49104 : Shape := ⟨2, ![1, 49104]⟩
abbrev S1x1x4 : Shape := ⟨3, ![1, 1, 4]⟩
abbrev S1x1 : Shape := ⟨2, ![1, 1]⟩

abbrev nBuf : Space → Nat
  | .hbm => 466
  | .vmem => 0
  | .smem => 0
  | _ => 0

abbrev hbmTy0_0 (i : Nat) : BufTy := match i % 128 with
  | 0 => ⟨S8x49104x80, .f32⟩
  | 1 => ⟨S8x49104x4, .f32⟩
  | 2 => ⟨S8x49104x1, .f32⟩
  | 3 => ⟨S1x49104x4, .f32⟩
  | 4 => ⟨S8x32x5, .f32⟩
  | 5 => ⟨S8x3x512x512, .f32⟩
  | 6 => ⟨S4, .f32⟩
  | 7 => ⟨S1x49104x1, .f32⟩
  | 8 => ⟨S49104, .f32⟩
  | 9 => ⟨S1x49104x1, .f32⟩
  | 10 => ⟨S49104, .f32⟩
  | 11 => ⟨S1x49104x1, .f32⟩
  | 12 => ⟨S49104, .f32⟩
  | 13 => ⟨S1x49104x1, .f32⟩
  | 14 => ⟨S49104, .f32⟩
  | 15 => ⟨S8x32x1, .f32⟩
  | 16 => ⟨S8x32, .f32⟩
  | 17 => ⟨S8x32x1, .f32⟩
  | 18 => ⟨S8x32, .f32⟩
  | 19 => ⟨S8x32x1, .f32⟩
  | 20 => ⟨S8x32, .f32⟩
  | 21 => ⟨S8x32x1, .f32⟩
  | 22 => ⟨S8x32, .f32⟩
  | 23 => ⟨S8, .i32⟩
  | 24 => ⟨S8x1, .i32⟩
  | 25 => ⟨S49104, .f32⟩
  | 26 => ⟨S49104, .f32⟩
  | 27 => ⟨S_, .f32⟩
  | 28 => ⟨S49104, .f32⟩
  | 29 => ⟨S49104, .f32⟩
  | 30 => ⟨S49104, .f32⟩
  | 31 => ⟨S_, .f32⟩
  | 32 => ⟨S49104, .f32⟩
  | 33 => ⟨S49104, .f32⟩
  | 34 => ⟨S49104, .f32⟩
  | 35 => ⟨S49104x1, .f32⟩
  | 36 => ⟨S49104x1, .f32⟩
  | 37 => ⟨S49104x1, .f32⟩
  | 38 => ⟨S49104x1, .f32⟩
  | 39 => ⟨S8x1x32, .f32⟩
  | 40 => ⟨S8x1x32, .f32⟩
  | 41 => ⟨S8x1x32, .f32⟩
  | 42 => ⟨S8x1x32, .f32⟩
  | 43 => ⟨S1x49104x1, .f32⟩
  | 44 => ⟨S8x49104x32, .f32⟩
  | 45 => ⟨S8x49104x32, .f32⟩
  | 46 => ⟨S8x49104x32, .f32⟩
  | 47 => ⟨S1x49104x1, .f32⟩
  | 48 => ⟨S8x49104x32, .f32⟩
  | 49 => ⟨S8x49104x32, .f32⟩
  | 50 => ⟨S8x49104x32, .f32⟩
  | 51 => ⟨S8x49104x32, .f32⟩
  | 52 => ⟨S_, .f32⟩
  | 53 => ⟨S8x49104x32, .f32⟩
  | 54 => ⟨S8x49104x32, .f32⟩
  | 55 => ⟨S1x49104x1, .f32⟩
  | 56 => ⟨S8x49104x32, .f32⟩
  | 57 => ⟨S8x49104x32, .f32⟩
  | 58 => ⟨S8x49104x32, .f32⟩
  | 59 => ⟨S1x49104x1, .f32⟩
  | 60 => ⟨S8x49104x32, .f32⟩
  | 61 => ⟨S8x49104x32, .f32⟩
  | 62 => ⟨S8x49104x32, .f32⟩
  | 63 => ⟨S8x49104x32, .f32⟩
  | 64 => ⟨S_, .f32⟩
  | 65 => ⟨S8x49104x32, .f32⟩
  | 66 => ⟨S8x49104x32, .f32⟩
  | 67 => ⟨S49104x1, .f32⟩
  | 68 => ⟨S49104x1, .f32⟩
  | 69 => ⟨S49104x1, .f32⟩
  | 70 => ⟨S8x1x32, .f32⟩
  | 71 => ⟨S8x1x32, .f32⟩
  | 72 => ⟨S8x1x32, .f32⟩
  | 73 => ⟨S1x49104x1, .f32⟩
  | 74 => ⟨S8x49104x32, .f32⟩
  | 75 => ⟨S8x49104x32, .f32⟩
  | 76 => ⟨S8x49104x32, .f32⟩
  | 77 => ⟨S8x49104x32, .f32⟩
  | 78 => ⟨S8x49104x32, .f32⟩
  | 79 => ⟨S8x49104x32, .f32⟩
  | 80 => ⟨S_, .f32⟩
  | 81 => ⟨S8x49104x32, .f32⟩
  | 82 => ⟨S8x49104x32, .f32⟩
  | 83 => ⟨S8x49104x32, .f32⟩
  | 84 => ⟨S_, .f32⟩
  | 85 => ⟨S8x49104, .f32⟩
  | 86 => ⟨S8x49104x32, .i32⟩
  | 87 => ⟨S_, .f32⟩
  | 88 => ⟨S_, .i32⟩
  | 89 => ⟨S8x49104, .f32⟩
  | 90 => ⟨S8x49104, .i32⟩
  | 91 => ⟨S_, .f32⟩
  | 92 => ⟨S8x49104, .f32⟩
  | 93 => ⟨S8x49104, .i1⟩
  | 94 => ⟨S_, .f32⟩
  | 95 => ⟨S8x49104, .f32⟩
  | 96 => ⟨S8x49104, .i1⟩
  | 97 => ⟨S8x49104, .f32⟩
  | 98 => ⟨S_, .f32⟩
  | 99 => ⟨S8, .f32⟩
  | 100 => ⟨S_, .f32⟩
  | 101 => ⟨S8, .f32⟩
  | 102 => ⟨S8, .f32⟩
  | 103 => ⟨S_, .i32⟩
  | 104 => ⟨S8x1, .i32⟩
  | 105 => ⟨S8x1, .i1⟩
  | 106 => ⟨S_, .i32⟩
  | 107 => ⟨S8x1, .i32⟩
  | 108 => ⟨S8x1, .i32⟩
  | 109 => ⟨S8x1, .i32⟩
  | 110 => ⟨S_, .i32⟩
  | 111 => ⟨S8x49104, .i32⟩
  | 112 => ⟨S8x49104, .i1⟩
  | 113 => ⟨S_, .i32⟩
  | 114 => ⟨S8x49104, .i32⟩
  | 115 => ⟨S8x49104, .i32⟩
  | 116 => ⟨S8x49104, .i32⟩
  | 117 => ⟨S8x49104, .i32⟩
  | 118 => ⟨S8x49104x1, .i32⟩
  | 119 => ⟨S8x49104x1, .i32⟩
  | 120 => ⟨S8x49104x2, .i32⟩
  | 121 => ⟨S8x49104x5, .f32⟩
  | 122 => ⟨S8x49104x1, .f32⟩
  | 123 => ⟨S8x49104, .f32⟩
  | 124 => ⟨S8x49104x1, .f32⟩
  | 125 => ⟨S8x49104, .f32⟩
  | 126 => ⟨S8x49104x1, .f32⟩
  | 127 => ⟨S8x49104, .f32⟩
  | _ => ⟨S8x49104x80, .f32⟩

abbrev hbmTy0_1 (i : Nat) : BufTy := match i % 128 with
  | 0 => ⟨S8x49104x1, .f32⟩
  | 1 => ⟨S8x49104, .f32⟩
  | 2 => ⟨S8x49104x1, .f32⟩
  | 3 => ⟨S8x49104, .f32⟩
  | 4 => ⟨S_, .f32⟩
  | 5 => ⟨S_, .f32⟩
  | 6 => ⟨S_, .f32⟩
  | 7 => ⟨S8x49104x80, .f32⟩
  | 8 => ⟨S8x49104x80, .f32⟩
  | 9 => ⟨S_, .f32⟩
  | 10 => ⟨S8x49104x80, .f32⟩
  | 11 => ⟨S8x49104x80, .f32⟩
  | 12 => ⟨S8x49104, .i32⟩
  | 13 => ⟨S8x49104x1, .i32⟩
  | 14 => ⟨S1x1x80, .i32⟩
  | 15 => ⟨S8x49104x80, .i32⟩
  | 16 => ⟨S8x49104x80, .i32⟩
  | 17 => ⟨S8x49104x80, .i1⟩
  | 18 => ⟨S8x49104x80, .f32⟩
  | 19 => ⟨S8x49104x1, .i1⟩
  | 20 => ⟨S8x49104x1, .i1⟩
  | 21 => ⟨S_, .f32⟩
  | 22 => ⟨S_, .f32⟩
  | 23 => ⟨S8x49104x1, .f32⟩
  | 24 => ⟨S8x49104x1, .f32⟩
  | 25 => ⟨S8x49104x1, .f32⟩
  | 26 => ⟨S8x49104x1, .f32⟩
  | 27 => ⟨S8x49104x80, .i1⟩
  | 28 => ⟨S8x49104x80, .f32⟩
  | 29 => ⟨S8x49104x80, .f32⟩
  | 30 => ⟨S_, .f32⟩
  | 31 => ⟨S8x49104x80, .f32⟩
  | 32 => ⟨S8x49104x80, .i1⟩
  | 33 => ⟨S_, .f32⟩
  | 34 => ⟨S_, .f32⟩
  | 35 => ⟨S8x49104x80, .f32⟩
  | 36 => ⟨S8x49104x80, .f32⟩
  | 37 => ⟨S8x49104x80, .f32⟩
  | 38 => ⟨S_, .f32⟩
  | 39 => ⟨S8x49104x80, .f32⟩
  | 40 => ⟨S8x49104x80, .i1⟩
  | 41 => ⟨S_, .f32⟩
  | 42 => ⟨S8x49104x80, .f32⟩
  | 43 => ⟨S8x49104x80, .f32⟩
  | 44 => ⟨S8x49104x80, .f32⟩
  | 45 => ⟨S_, .f32⟩
  | 46 => ⟨S8x49104x80, .f32⟩
  | 47 => ⟨S8x49104x80, .f32⟩
  | 48 => ⟨S8x49104x80, .f32⟩
  | 49 => ⟨S8x49104x80, .f32⟩
  | 50 => ⟨S8x49104x80, .f32⟩
  | 51 => ⟨S8x49104x80, .f32⟩
  | 52 => ⟨S_, .f32⟩
  | 53 => ⟨S8x49104x80, .f32⟩
  | 54 => ⟨S8x49104x80, .f32⟩
  | 55 => ⟨S_, .f32⟩
  | 56 => ⟨S8x49104x80, .f32⟩
  | 57 => ⟨S8x49104x80, .f32⟩
  | 58 => ⟨S8x49104x80, .f32⟩
  | 59 => ⟨S8x49104x80, .f32⟩
  | 60 => ⟨S8x49104x80, .f32⟩
  | 61 => ⟨S8x49104x80, .f32⟩
  | 62 => ⟨S_, .f32⟩
  | 63 => ⟨S8x49104x80, .f32⟩
  | 64 => ⟨S8x49104x80, .i1⟩
  | 65 => ⟨S8x49104x80, .f32⟩
  | 66 => ⟨S_, .f32⟩
  | 67 => ⟨S_, .f32⟩
  | 68 => ⟨S8x49104x80, .f32⟩
  | 69 => ⟨S8x49104x80, .f32⟩
  | 70 => ⟨S_, .f32⟩
  | 71 => ⟨S8, .f32⟩
  | 72 => ⟨S8, .f32⟩
  | 73 => ⟨S8x49104, .f32⟩
  | 74 => ⟨S8x49104, .f32⟩
  | 75 => ⟨S_, .f32⟩
  | 76 => ⟨S8x49104, .f32⟩
  | 77 => ⟨S8x49104, .f32⟩
  | 78 => ⟨S8x49104, .f32⟩
  | 79 => ⟨S_, .f32⟩
  | 80 => ⟨S8x49104, .f32⟩
  | 81 => ⟨S8x49104, .f32⟩
  | 82 => ⟨S8x49104, .f32⟩
  | 83 => ⟨S_, .f32⟩
  | 84 => ⟨S8x49104, .f32⟩
  | 85 => ⟨S8x49104, .f32⟩
  | 86 => ⟨S_, .f32⟩
  | 87 => ⟨S8x49104, .f32⟩
  | 88 => ⟨S8x49104, .f32⟩
  | 89 => ⟨S1x49104, .f32⟩
  | 90 => ⟨S8x49104, .f32⟩
  | 91 => ⟨S8x49104, .f32⟩
  | 92 => ⟨S1x49104, .f32⟩
  | 93 => ⟨S8x49104, .f32⟩
  | 94 => ⟨S8x49104, .f32⟩
  | 95 => ⟨S1x49104, .f32⟩
  | 96 => ⟨S8x49104, .f32⟩
  | 97 => ⟨S8x49104, .f32⟩
  | 98 => ⟨S1x49104, .f32⟩
  | 99 => ⟨S8x49104, .f32⟩
  | 100 => ⟨S8x49104, .f32⟩
  | 101 => ⟨S1x49104, .f32⟩
  | 102 => ⟨S8x49104, .f32⟩
  | 103 => ⟨S8x49104, .f32⟩
  | 104 => ⟨S8x49104, .f32⟩
  | 105 => ⟨S1x49104, .f32⟩
  | 106 => ⟨S8x49104, .f32⟩
  | 107 => ⟨S8x49104, .f32⟩
  | 108 => ⟨S8x49104, .f32⟩
  | 109 => ⟨S8x49104x1, .f32⟩
  | 110 => ⟨S8x49104x1, .f32⟩
  | 111 => ⟨S8x49104x1, .f32⟩
  | 112 => ⟨S8x49104x1, .f32⟩
  | 113 => ⟨S8x49104x4, .f32⟩
  | 114 => ⟨S1x1x4, .f32⟩
  | 115 => ⟨S8x49104x4, .f32⟩
  | 116 => ⟨S8x49104x4, .f32⟩
  | 117 => ⟨S8x49104x4, .f32⟩
  | 118 => ⟨S8x49104x4, .f32⟩
  | 119 => ⟨S_, .f32⟩
  | 120 => ⟨S8x49104x4, .f32⟩
  | 121 => ⟨S8x49104x4, .i1⟩
  | 122 => ⟨S8x49104x4, .f32⟩
  | 123 => ⟨S_, .f32⟩
  | 124 => ⟨S8x49104x4, .f32⟩
  | 125 => ⟨S8x49104x4, .f32⟩
  | 126 => ⟨S_, .f32⟩
  | 127 => ⟨S8x49104x4, .f32⟩
  | _ => ⟨S8x49104x80, .f32⟩

abbrev hbmTy0_2 (i : Nat) : BufTy := match i % 128 with
  | 0 => ⟨S8x49104x4, .f32⟩
  | 1 => ⟨S8x49104x4, .f32⟩
  | 2 => ⟨S8x49104x1, .i1⟩
  | 3 => ⟨S_, .f32⟩
  | 4 => ⟨S_, .f32⟩
  | 5 => ⟨S8x49104x4, .i1⟩
  | 6 => ⟨S8x49104x4, .f32⟩
  | 7 => ⟨S8x49104x4, .f32⟩
  | 8 => ⟨S_, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .i1⟩
  | 17 => ⟨S_, .f32⟩
  | 18 => ⟨S_, .f32⟩
  | 19 => ⟨S8, .f32⟩
  | 20 => ⟨S8, .f32⟩
  | 21 => ⟨S8x49104x1, .f32⟩
  | 22 => ⟨S8x49104, .f32⟩
  | 23 => ⟨S8x49104x1, .f32⟩
  | 24 => ⟨S8x49104, .f32⟩
  | 25 => ⟨S8x49104x1, .f32⟩
  | 26 => ⟨S8x49104, .f32⟩
  | 27 => ⟨S8x49104x1, .f32⟩
  | 28 => ⟨S8x49104, .f32⟩
  | 29 => ⟨S_, .f32⟩
  | 30 => ⟨S8x49104, .f32⟩
  | 31 => ⟨S8x49104, .f32⟩
  | 32 => ⟨S1x49104, .f32⟩
  | 33 => ⟨S8x49104, .f32⟩
  | 34 => ⟨S8x49104, .f32⟩
  | 35 => ⟨S1x49104, .f32⟩
  | 36 => ⟨S8x49104, .f32⟩
  | 37 => ⟨S8x49104, .f32⟩
  | 38 => ⟨S_, .f32⟩
  | 39 => ⟨S8x49104, .f32⟩
  | 40 => ⟨S8x49104, .f32⟩
  | 41 => ⟨S1x49104, .f32⟩
  | 42 => ⟨S8x49104, .f32⟩
  | 43 => ⟨S8x49104, .f32⟩
  | 44 => ⟨S1x49104, .f32⟩
  | 45 => ⟨S8x49104, .f32⟩
  | 46 => ⟨S8x49104, .f32⟩
  | 47 => ⟨S_, .f32⟩
  | 48 => ⟨S8x49104, .f32⟩
  | 49 => ⟨S8x49104, .f32⟩
  | 50 => ⟨S8x49104, .f32⟩
  | 51 => ⟨S1x49104, .f32⟩
  | 52 => ⟨S8x49104, .f32⟩
  | 53 => ⟨S8x49104, .f32⟩
  | 54 => ⟨S_, .f32⟩
  | 55 => ⟨S8x49104, .f32⟩
  | 56 => ⟨S8x49104, .f32⟩
  | 57 => ⟨S8x49104, .f32⟩
  | 58 => ⟨S1x49104, .f32⟩
  | 59 => ⟨S8x49104, .f32⟩
  | 60 => ⟨S8x49104, .f32⟩
  | 61 => ⟨S_, .f32⟩
  | 62 => ⟨S8x49104, .f32⟩
  | 63 => ⟨S8x49104, .f32⟩
  | 64 => ⟨S8x49104, .f32⟩
  | 65 => ⟨S_, .f32⟩
  | 66 => ⟨S8x49104, .f32⟩
  | 67 => ⟨S8x49104, .f32⟩
  | 68 => ⟨S_, .f32⟩
  | 69 => ⟨S8x49104, .f32⟩
  | 70 => ⟨S8x49104, .f32⟩
  | 71 => ⟨S8x49104, .f32⟩
  | 72 => ⟨S_, .f32⟩
  | 73 => ⟨S8x49104, .f32⟩
  | 74 => ⟨S8x49104, .f32⟩
  | 75 => ⟨S_, .f32⟩
  | 76 => ⟨S8x49104, .f32⟩
  | 77 => ⟨S8x49104, .f32⟩
  | 78 => ⟨S8x49104, .f32⟩
  | 79 => ⟨S_, .f32⟩
  | 80 => ⟨S8x49104, .f32⟩
  | 81 => ⟨S8x49104, .f32⟩
  | 82 => ⟨S_, .f32⟩
  | 83 => ⟨S8x49104, .f32⟩
  | 84 => ⟨S8x49104, .f32⟩
  | 85 => ⟨S8x49104, .f32⟩
  | 86 => ⟨S_, .f32⟩
  | 87 => ⟨S8x49104, .f32⟩
  | 88 => ⟨S8x49104, .f32⟩
  | 89 => ⟨S_, .f32⟩
  | 90 => ⟨S8x32, .f32⟩
  | 91 => ⟨S_, .i32⟩
  | 92 => ⟨S8x1, .i32⟩
  | 93 => ⟨S8x1, .i1⟩
  | 94 => ⟨S_, .i32⟩
  | 95 => ⟨S8x1, .i32⟩
  | 96 => ⟨S8x1, .i32⟩
  | 97 => ⟨S8x1, .i32⟩
  | 98 => ⟨S_, .i32⟩
  | 99 => ⟨S8x49104, .i32⟩
  | 100 => ⟨S8x49104, .i1⟩
  | 101 => ⟨S_, .i32⟩
  | 102 => ⟨S8x49104, .i32⟩
  | 103 => ⟨S8x49104, .i32⟩
  | 104 => ⟨S8x49104, .i32⟩
  | 105 => ⟨S8x49104, .i32⟩
  | 106 => ⟨S8x49104x1, .i32⟩
  | 107 => ⟨S8x49104x1, .i32⟩
  | 108 => ⟨S8x49104x2, .i32⟩
  | 109 => ⟨S8x32, .f32⟩
  | 110 => ⟨S_, .f32⟩
  | 111 => ⟨S8x32, .f32⟩
  | 112 => ⟨S8x32, .i1⟩
  | 113 => ⟨S8x1x32, .i1⟩
  | 114 => ⟨S8x49104x1, .f32⟩
  | 115 => ⟨S8x49104x1, .f32⟩
  | 116 => ⟨S8x49104x1, .f32⟩
  | 117 => ⟨S8x49104x1, .f32⟩
  | 118 => ⟨S8x1x32, .f32⟩
  | 119 => ⟨S8x1x32, .f32⟩
  | 120 => ⟨S8x1x32, .f32⟩
  | 121 => ⟨S8x1x32, .f32⟩
  | 122 => ⟨S8x49104x32, .f32⟩
  | 123 => ⟨S8x49104x32, .f32⟩
  | 124 => ⟨S8x49104x32, .f32⟩
  | 125 => ⟨S8x49104x32, .f32⟩
  | 126 => ⟨S8x49104x32, .f32⟩
  | 127 => ⟨S8x49104x32, .f32⟩
  | _ => ⟨S8x49104x80, .f32⟩

abbrev hbmTy0_3 (i : Nat) : BufTy := match i % 128 with
  | 0 => ⟨S8x49104x32, .f32⟩
  | 1 => ⟨S_, .f32⟩
  | 2 => ⟨S8x49104x32, .f32⟩
  | 3 => ⟨S8x49104x32, .f32⟩
  | 4 => ⟨S8x49104x32, .f32⟩
  | 5 => ⟨S8x49104x32, .f32⟩
  | 6 => ⟨S8x49104x32, .f32⟩
  | 7 => ⟨S8x49104x32, .f32⟩
  | 8 => ⟨S8x49104x32, .f32⟩
  | 9 => ⟨S8x49104x32, .f32⟩
  | 10 => ⟨S8x49104x32, .f32⟩
  | 11 => ⟨S_, .f32⟩
  | 12 => ⟨S8x49104x32, .f32⟩
  | 13 => ⟨S8x49104x32, .f32⟩
  | 14 => ⟨S8x49104x1, .f32⟩
  | 15 => ⟨S8x49104x1, .f32⟩
  | 16 => ⟨S8x49104x1, .f32⟩
  | 17 => ⟨S8x1x32, .f32⟩
  | 18 => ⟨S8x1x32, .f32⟩
  | 19 => ⟨S8x1x32, .f32⟩
  | 20 => ⟨S8x49104x32, .f32⟩
  | 21 => ⟨S8x49104x32, .f32⟩
  | 22 => ⟨S8x49104x32, .f32⟩
  | 23 => ⟨S8x49104x32, .f32⟩
  | 24 => ⟨S8x49104x32, .f32⟩
  | 25 => ⟨S8x49104x32, .f32⟩
  | 26 => ⟨S_, .f32⟩
  | 27 => ⟨S8x49104x32, .f32⟩
  | 28 => ⟨S8x49104x32, .f32⟩
  | 29 => ⟨S8x49104x32, .f32⟩
  | 30 => ⟨S_, .f32⟩
  | 31 => ⟨S_, .f32⟩
  | 32 => ⟨S8x49104x32, .i1⟩
  | 33 => ⟨S8x49104x32, .f32⟩
  | 34 => ⟨S8x49104x32, .f32⟩
  | 35 => ⟨S_, .f32⟩
  | 36 => ⟨S8x49104, .f32⟩
  | 37 => ⟨S8x49104, .f32⟩
  | 38 => ⟨S8x49104, .f32⟩
  | 39 => ⟨S8x49104, .f32⟩
  | 40 => ⟨S_, .f32⟩
  | 41 => ⟨S8x49104, .f32⟩
  | 42 => ⟨S8x49104, .f32⟩
  | 43 => ⟨S_, .f32⟩
  | 44 => ⟨S_, .f32⟩
  | 45 => ⟨S_, .f32⟩
  | 46 => ⟨S8x49104, .f32⟩
  | 47 => ⟨S8x49104, .f32⟩
  | 48 => ⟨S_, .f32⟩
  | 49 => ⟨S8x49104, .f32⟩
  | 50 => ⟨S8x49104, .f32⟩
  | 51 => ⟨S8x49104, .f32⟩
  | 52 => ⟨S8x49104, .f32⟩
  | 53 => ⟨S_, .f32⟩
  | 54 => ⟨S_, .f32⟩
  | 55 => ⟨S8x49104, .f32⟩
  | 56 => ⟨S8x49104, .f32⟩
  | 57 => ⟨S_, .f32⟩
  | 58 => ⟨S8, .f32⟩
  | 59 => ⟨S8, .f32⟩
  | 60 => ⟨S_, .f32⟩
  | 61 => ⟨S8, .f32⟩
  | 62 => ⟨S8, .i1⟩
  | 63 => ⟨S_, .f32⟩
  | 64 => ⟨S_, .f32⟩
  | 65 => ⟨S8, .f32⟩
  | 66 => ⟨S8, .f32⟩
  | 67 => ⟨S_, .f32⟩
  | 68 => ⟨S_, .f32⟩
  | 69 => ⟨S_, .f32⟩
  | 70 => ⟨S_, .f32⟩
  | 71 => ⟨S1x1, .f32⟩
  | 72 => ⟨S_, .f32⟩
  | 73 => ⟨S_, .f32⟩
  | 74 => ⟨S_, .f32⟩
  | 75 => ⟨S_, .f32⟩
  | 76 => ⟨S1x1, .f32⟩
  | 77 => ⟨S_, .f32⟩
  | 78 => ⟨S_, .f32⟩
  | 79 => ⟨S_, .f32⟩
  | 80 => ⟨S_, .f32⟩
  | 81 => ⟨S1x1, .f32⟩
  | _ => ⟨S8x49104x80, .f32⟩

abbrev hbmTy (i : Nat) : BufTy := match i / 128 with
  | 0 => hbmTy0_0 i
  | 1 => hbmTy0_1 i
  | 2 => hbmTy0_2 i
  | 3 => hbmTy0_3 i
  | _ => ⟨S8x49104x80, .f32⟩

abbrev bufTy : (tb : Table) → Fin (tcTables nBuf tb) → BufTy
  | .hbm, ⟨i, _⟩ => hbmTy i
  | _, _ => ⟨S8x49104x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_3 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_4 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_call0_v0 : Ref sig .tc := ⟨.hbm, 86, rfl⟩
abbrev main_call0_cst : Ref sig .tc := ⟨.hbm, 87, rfl⟩
abbrev main_call0_c : Ref sig .tc := ⟨.hbm, 88, rfl⟩
abbrev main_call0_v1_0 : Ref sig .tc := ⟨.hbm, 89, rfl⟩
abbrev main_v73 : Ref sig .tc := ⟨.hbm, 90, rfl⟩
abbrev main_cst_6 : Ref sig .tc := ⟨.hbm, 91, rfl⟩
abbrev main_v74 : Ref sig .tc := ⟨.hbm, 92, rfl⟩
abbrev main_v75 : Ref sig .tc := ⟨.hbm, 93, rfl⟩
abbrev main_cst_7 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_cst_9 : Ref sig .tc := ⟨.hbm, 100, rfl⟩
abbrev main_v80 : Ref sig .tc := ⟨.hbm, 101, rfl⟩
abbrev main_v81 : Ref sig .tc := ⟨.hbm, 102, rfl⟩
abbrev main_c : Ref sig .tc := ⟨.hbm, 103, rfl⟩
abbrev main_v82 : Ref sig .tc := ⟨.hbm, 104, rfl⟩
abbrev main_v83 : Ref sig .tc := ⟨.hbm, 105, rfl⟩
abbrev main_c_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_11 : Ref sig .tc := ⟨.hbm, 110, rfl⟩
abbrev main_v87 : Ref sig .tc := ⟨.hbm, 111, rfl⟩
abbrev main_v88 : Ref sig .tc := ⟨.hbm, 112, rfl⟩
abbrev main_c_12 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_cst_14 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v107 : Ref sig .tc := ⟨.hbm, 139, rfl⟩
abbrev main_v108 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_15 : Ref sig .tc := ⟨.hbm, 149, rfl⟩
abbrev main_cst_16 : Ref sig .tc := ⟨.hbm, 150, rfl⟩
abbrev main_call3_v0 : Ref sig .tc := ⟨.hbm, 151, rfl⟩
abbrev main_call3_v1 : Ref sig .tc := ⟨.hbm, 152, rfl⟩
abbrev main_v112 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v113 : Ref sig .tc := ⟨.hbm, 157, rfl⟩
abbrev main_cst_17 : Ref sig .tc := ⟨.hbm, 158, rfl⟩
abbrev main_v114 : Ref sig .tc := ⟨.hbm, 159, rfl⟩
abbrev main_v115 : Ref sig .tc := ⟨.hbm, 160, rfl⟩
abbrev main_cst_18 : Ref sig .tc := ⟨.hbm, 161, rfl⟩
abbrev main_cst_19 : Ref sig .tc := ⟨.hbm, 162, rfl⟩
abbrev main_call5_v0 : Ref sig .tc := ⟨.hbm, 163, rfl⟩
abbrev main_call5_v1 : Ref sig .tc := ⟨.hbm, 164, rfl⟩
abbrev main_v116 : Ref sig .tc := ⟨.hbm, 165, rfl⟩
abbrev main_cst_20 : Ref sig .tc := ⟨.hbm, 166, rfl⟩
abbrev main_v117 : Ref sig .tc := ⟨.hbm, 167, rfl⟩
abbrev main_v118 : Ref sig .tc := ⟨.hbm, 168, rfl⟩
abbrev main_cst_21 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_22 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_23 : Ref sig .tc := ⟨.hbm, 180, rfl⟩
abbrev main_v128 : Ref sig .tc := ⟨.hbm, 181, rfl⟩
abbrev main_v129 : Ref sig .tc := ⟨.hbm, 182, rfl⟩
abbrev main_cst_24 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_25 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_26 : Ref sig .tc := ⟨.hbm, 194, rfl⟩
abbrev main_call7_v0 : Ref sig .tc := ⟨.hbm, 195, rfl⟩
abbrev main_call7_v1 : Ref sig .tc := ⟨.hbm, 196, rfl⟩
abbrev main_v139 : Ref sig .tc := ⟨.hbm, 197, rfl⟩
abbrev main_cst_27 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_28 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_cst_29 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_30 : Ref sig .tc := ⟨.hbm, 211, rfl⟩
abbrev main_v150 : Ref sig .tc := ⟨.hbm, 212, rfl⟩
abbrev main_v151 : Ref sig .tc := ⟨.hbm, 213, rfl⟩
abbrev main_cst_31 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_cst_32 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_33 : Ref sig .tc := ⟨.hbm, 251, rfl⟩
abbrev main_v187 : Ref sig .tc := ⟨.hbm, 252, rfl⟩
abbrev main_v188 : Ref sig .tc := ⟨.hbm, 253, rfl⟩
abbrev main_cst_34 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_35 : Ref sig .tc := ⟨.hbm, 259, rfl⟩
abbrev main_call9_v0 : Ref sig .tc := ⟨.hbm, 260, rfl⟩
abbrev main_call9_v1 : Ref sig .tc := ⟨.hbm, 261, rfl⟩
abbrev main_call9_v2 : Ref sig .tc := ⟨.hbm, 262, rfl⟩
abbrev main_v193 : Ref sig .tc := ⟨.hbm, 263, rfl⟩
abbrev main_cst_36 : Ref sig .tc := ⟨.hbm, 264, rfl⟩
abbrev main_v194 : Ref sig .tc := ⟨.hbm, 265, rfl⟩
abbrev main_cst_37 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_cst_38 : Ref sig .tc := ⟨.hbm, 270, rfl⟩
abbrev main_v198 : Ref sig .tc := ⟨.hbm, 271, rfl⟩
abbrev main_v199 : Ref sig .tc := ⟨.hbm, 272, rfl⟩
abbrev main_cst_39 : Ref sig .tc := ⟨.hbm, 273, rfl⟩
abbrev main_call10_v0 : Ref sig .tc := ⟨.hbm, 274, rfl⟩
abbrev main_call10_v1 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_40 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_cst_41 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_cst_42 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_cst_43 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_cst_44 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_cst_45 : Ref sig .tc := ⟨.hbm, 321, rfl⟩
abbrev main_v240 : Ref sig .tc := ⟨.hbm, 322, rfl⟩
abbrev main_v241 : Ref sig .tc := ⟨.hbm, 323, rfl⟩
abbrev main_cst_46 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_cst_47 : Ref sig .tc := ⟨.hbm, 328, rfl⟩
abbrev main_v245 : Ref sig .tc := ⟨.hbm, 329, rfl⟩
abbrev main_v246 : Ref sig .tc := ⟨.hbm, 330, rfl⟩
abbrev main_cst_48 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_49 : Ref sig .tc := ⟨.hbm, 335, rfl⟩
abbrev main_v250 : Ref sig .tc := ⟨.hbm, 336, rfl⟩
abbrev main_v251 : Ref sig .tc := ⟨.hbm, 337, rfl⟩
abbrev main_cst_50 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_cst_51 : Ref sig .tc := ⟨.hbm, 342, rfl⟩
abbrev main_v255 : Ref sig .tc := ⟨.hbm, 343, rfl⟩
abbrev main_v256 : Ref sig .tc := ⟨.hbm, 344, rfl⟩
abbrev main_cst_52 : Ref sig .tc := ⟨.hbm, 345, rfl⟩
abbrev main_v257 : Ref sig .tc := ⟨.hbm, 346, rfl⟩
abbrev main_c_53 : Ref sig .tc := ⟨.hbm, 347, rfl⟩
abbrev main_v258 : Ref sig .tc := ⟨.hbm, 348, rfl⟩
abbrev main_v259 : Ref sig .tc := ⟨.hbm, 349, rfl⟩
abbrev main_c_54 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_c_55 : Ref sig .tc := ⟨.hbm, 354, rfl⟩
abbrev main_v263 : Ref sig .tc := ⟨.hbm, 355, rfl⟩
abbrev main_v264 : Ref sig .tc := ⟨.hbm, 356, rfl⟩
abbrev main_c_56 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_cst_57 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286 : Ref sig .tc := ⟨.hbm, 380, rfl⟩
abbrev main_v287 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_cst_58 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_v299 : Ref sig .tc := ⟨.hbm, 394, rfl⟩
abbrev main_cst_59 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_cst_60 : Ref sig .tc := ⟨.hbm, 410, rfl⟩
abbrev main_v314 : Ref sig .tc := ⟨.hbm, 411, rfl⟩
abbrev main_v315 : Ref sig .tc := ⟨.hbm, 412, rfl⟩
abbrev main_v316 : Ref sig .tc := ⟨.hbm, 413, rfl⟩
abbrev main_cst_61 : Ref sig .tc := ⟨.hbm, 414, rfl⟩
abbrev main_call11_v0 : Ref sig .tc := ⟨.hbm, 415, rfl⟩
abbrev main_call11_v1 : Ref sig .tc := ⟨.hbm, 416, rfl⟩
abbrev main_call11_v2 : Ref sig .tc := ⟨.hbm, 417, rfl⟩
abbrev main_v317 : Ref sig .tc := ⟨.hbm, 418, rfl⟩
abbrev main_cst_62 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_cst_63 : Ref sig .tc := ⟨.hbm, 424, rfl⟩
abbrev main_v322 : Ref sig .tc := ⟨.hbm, 425, rfl⟩
abbrev main_v323 : Ref sig .tc := ⟨.hbm, 426, rfl⟩
abbrev main_cst_64 : Ref sig .tc := ⟨.hbm, 427, rfl⟩
abbrev main_cst_65 : Ref sig .tc := ⟨.hbm, 428, rfl⟩
abbrev main_call12_v0 : Ref sig .tc := ⟨.hbm, 429, rfl⟩
abbrev main_call12_v1 : Ref sig .tc := ⟨.hbm, 430, rfl⟩
abbrev main_call12_v2 : Ref sig .tc := ⟨.hbm, 431, rfl⟩
abbrev main_call12_v3 : Ref sig .tc := ⟨.hbm, 432, rfl⟩
abbrev main_call12_v4 : Ref sig .tc := ⟨.hbm, 433, rfl⟩
abbrev main_v324 : Ref sig .tc := ⟨.hbm, 434, rfl⟩
abbrev main_v325 : Ref sig .tc := ⟨.hbm, 435, rfl⟩
abbrev main_v326 : Ref sig .tc := ⟨.hbm, 436, rfl⟩
abbrev main_cst_66 : Ref sig .tc := ⟨.hbm, 437, rfl⟩
abbrev main_call13_v0 : Ref sig .tc := ⟨.hbm, 438, rfl⟩
abbrev main_call13_v1 : Ref sig .tc := ⟨.hbm, 439, rfl⟩
abbrev main_v327 : Ref sig .tc := ⟨.hbm, 440, rfl⟩
abbrev main_cst_67 : Ref sig .tc := ⟨.hbm, 441, rfl⟩
abbrev main_v328 : Ref sig .tc := ⟨.hbm, 442, rfl⟩
abbrev main_v329 : Ref sig .tc := ⟨.hbm, 443, rfl⟩
abbrev main_cst_68 : Ref sig .tc := ⟨.hbm, 444, rfl⟩
abbrev main_v330 : Ref sig .tc := ⟨.hbm, 445, rfl⟩
abbrev main_v331 : Ref sig .tc := ⟨.hbm, 446, rfl⟩
abbrev main_cst_69 : Ref sig .tc := ⟨.hbm, 447, rfl⟩
abbrev main_call14_v0 : Ref sig .tc := ⟨.hbm, 448, rfl⟩
abbrev main_call14_v1 : Ref sig .tc := ⟨.hbm, 449, rfl⟩
abbrev main_v332 : Ref sig .tc := ⟨.hbm, 450, rfl⟩
abbrev main_cst_70 : Ref sig .tc := ⟨.hbm, 451, rfl⟩
abbrev main_v333 : Ref sig .tc := ⟨.hbm, 452, rfl⟩
abbrev main_cst_71 : Ref sig .tc := ⟨.hbm, 453, rfl⟩
abbrev main_v334 : Ref sig .tc := ⟨.hbm, 454, rfl⟩
abbrev main_v335 : Ref sig .tc := ⟨.hbm, 455, rfl⟩
abbrev main_cst_72 : Ref sig .tc := ⟨.hbm, 456, rfl⟩
abbrev main_v336 : Ref sig .tc := ⟨.hbm, 457, rfl⟩
abbrev main_cst_73 : Ref sig .tc := ⟨.hbm, 458, rfl⟩
abbrev main_v337 : Ref sig .tc := ⟨.hbm, 459, rfl⟩
abbrev main_v338 : Ref sig .tc := ⟨.hbm, 460, rfl⟩
abbrev main_cst_74 : Ref sig .tc := ⟨.hbm, 461, rfl⟩
abbrev main_v339 : Ref sig .tc := ⟨.hbm, 462, rfl⟩
abbrev main_cst_75 : Ref sig .tc := ⟨.hbm, 463, rfl⟩
abbrev main_v340 : Ref sig .tc := ⟨.hbm, 464, rfl⟩
abbrev main_v341 : Ref sig .tc := ⟨.hbm, 465, rfl⟩

abbrev nD : Nat := 1
abbrev τ : Topo := Topo.v7x

variable {F : FTy → Type} [FloatOps F]
-- ==== Proof.IBody.lean ====
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit
public import Idealize.ShloMosaic.Lib.ValueIdx
public import Idealize.ShloMosaic.Lib.Tactic

@[expose] public section

set_option maxRecDepth 16384
set_option synthInstance.maxSize 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- What the anchors' block gives the box transforms: widths, heights and centres, four payloads of one block. -/
abbrev w6 (x3 : Vec F S4x24576 .f32) := k0_pay6 x3
abbrev w7 (x3 : Vec F S4x24576 .f32) := k0_pay7 x3
abbrev w10 (x3 : Vec F S4x24576 .f32) := k0_pay8 x3
abbrev w13 (x3 : Vec F S4x24576 .f32) := k0_pay9 x3

/-- Each anchor's largest overlap with a box of the image, of the anchors' block and the boxes. -/
abbrev best (x3 : Vec F S4x24576 .f32) (x4 : Vec F S1x32x5 .f32) : FVec F S1x24576 .f32 :=
  k0_pay47 (k0_pay2 x3) (k0_pay3 x3) (k0_pay4 x3) (k0_pay5 x3) x4
abbrev isBest (x3 : Vec F S4x24576 .f32) (x4 : Vec F S1x32x5 .f32) : IVec S32x24576 1 :=
  k0_pay48 (k0_pay2 x3) (k0_pay3 x3) (k0_pay4 x3) (k0_pay5 x3) x4
abbrev boxIx : IVec S32x24576 32 := iota .tc S32x24576 32 [0] iota_S32x24576_d0_w32
abbrev vld (n : BitVec 32) : IVec S1x24576 1 := k0_pay45 n

/-- The boxes used so far, after a block of anchors. -/
def usedStep (n : BitVec 32) (x3 : Vec F S4x24576 .f32) (x4 : Vec F S1x32x5 .f32) (u : Vec F S32x1 .f32) : Vec F S32x1 .f32 :=
  k0_pay54 (vld n) (best x3 x4) boxIx (isBest x3 x4) k0_pay49 u
/-- The number of positive anchors, after a block of anchors. -/
def nposStep (n : BitVec 32) (x3 : Vec F S4x24576 .f32) (x4 : Vec F S1x32x5 .f32) (u : Vec F S1x1 .f32) : Vec F S1x1 .f32 :=
  k0_pay55 (vld n) (best x3 x4) u
/-- A block of anchors' positive flags. -/
def posRow (n : BitVec 32) (x3 : Vec F S4x24576 .f32) (x4 : Vec F S1x32x5 .f32) : Vec F S1x24576 .f32 :=
  k0_pay56 (vld n) (best x3 x4)
/-- The assignment of a block of anchors to boxes, as zeroes and ones. -/
abbrev asg (n : BitVec 32) (x3 : Vec F S4x24576 .f32) (x4 : Vec F S1x32x5 .f32) : FVec F S32x24576 .f32 :=
  k0_pay53 (vld n) (best x3 x4) boxIx (isBest x3 x4) k0_pay49
/-- The first four rows of a block of five. -/
abbrev rows4 (x5 : Vec F S1x5x32 .f32) : Vec F S1x4x32 .f32 :=
  View.ld x5 (Rect.unit (s := S1x5x32) ![0, 0, 0] S1x4x32.size inb_S1x5x32_S1x4x32_0_0_0)
/-- The regression sum, after a block of anchors. -/
def regStep (n : BitVec 32) (x3 : Vec F S4x24576 .f32) (x4 : Vec F S1x32x5 .f32) (x5 : Vec F S1x5x32 .f32)
    (x6 : Vec F S1x4x24576 .f32) (u : Vec F S1x1 .f32) : Vec F S1x1 .f32 :=
  k0_pay60 (k0_pay51 (vld n) (best x3 x4))
    (k0_pay57 (w6 x3) (w7 x3) (w10 x3) (w13 x3) (asg n x3 x4) (rows4 x5) x6)
    (k0_pay58 (w6 x3) (w7 x3) (w10 x3) (w13 x3) (asg n x3 x4) (rows4 x5) x6) (k0_pay59 (F := F)) u
/-- The classification sum, after a block of anchors. -/
def clsStep (n : BitVec 32) (x2 : Vec F S1x24576x80 .f32) (x3 : Vec F S4x24576 .f32) (x4 : Vec F S1x32x5 .f32)
    (u : Vec F S1x1 .f32) : Vec F S1x1 .f32 :=
  k0_pay14 (k0_pay64 (k0_pay51 (vld n) (best x3 x4)) (k0_pay52 (vld n) (best x3 x4)) (asg n x3 x4)
    (k0_pay62 n x2) (k0_pay63 n (k0_pay44 x4) x2) u)
/-- The location sum, after a block of anchors of the previous image. -/
def locStep (x3 : Vec F S4x24576 .f32) (x7 : Vec F S1x32x5 .f32) (x8 : Vec F S1x4x24576 .f32) (x9 : Vec F S1x1x24576 .f32)
    (u : Vec F S32x1 .f32) (p : Vec F S1x24576 .f32) (a : Vec F S1x1 .f32) : Vec F S1x1 .f32 :=
  k0_pay12 (k0_pay42 (k0_pay30 x7) (k0_pay31 x7) (k0_pay32 x7) (k0_pay33 x7) (k0_pay36 (w7 x3) (w13 x3) x8)
    (k0_pay38 (w7 x3) x8) (k0_pay39 (w6 x3) (w10 x3) x8) (k0_pay40 (w7 x3) (w13 x3) x8) (k0_pay41 (w6 x3) (w10 x3) x8)
    (Scalar.ofBits .f32 0x3F000000#32) u) (k0_pay43 x9) p a
/-- The flags with row `k` replaced. -/
def setRow (k : Nat) (x : Vec F S2x24576 .f32) (w : Vec F S1x24576 .f32) : Vec F S2x24576 .f32 :=
  fun y => if (y 0).val = k then w (ValueIdx.ix2 (0 : Fin 1) (y 1 : Fin 24576)) else x y
/-- Row `k` of the flags. -/
def getRow (k : Fin 2) (x : Vec F S2x24576 .f32) : Vec F S1x24576 .f32 :=
  fun y => x (ValueIdx.ix2 k (y 1 : Fin 24576))

theorem pay15_id (v : Vec F S32x1 .f32) : k0_pay15 v = v := shapeCast_self v _

theorem pay16_id (v : Vec F S1x1 .f32) : k0_pay16 v = v := shapeCast_self v _

theorem pay17_id (v : Vec F S1x1 .f32) : k0_pay17 v = v := shapeCast_self v _

theorem pay18_id (v : Vec F S1x1 .f32) : k0_pay18 v = v := shapeCast_self v _

/-- A whole store, last, leaves what it stored. -/
theorem read_writes_unit {sig : RefSig} {κ : Kind} {sp : Space} {S : Shape} {e : EltTy} (v : View sig κ sp S e)
    {off : Fin S.rank → Nat} (h : ∀ a, off a = 0) (inb : ∀ a, off a + S.size a ≤ S.size a) (f : v.ty.Contents (Elt F))
    (w : S.Idx → Elt F e) (L : List (View.Piece (Elt F) S e)) :
    v.read (Elt F) (v.writes (Elt F) f ((⟨Rect.unit off (no_index S.size) inb, w⟩ : View.Piece (Elt F) S e) :: L)) = w := by
  have h' : off = fun _ => 0 := funext h
  rw [View.read_writes_eq_canon _ _ _ (fun y => ⟨_, List.mem_cons_self, View.mem_set_unit_zero h' inb y⟩)]
  exact View.canon_cons_unit_zero h' inb w L

theorem off1_eq (i : grid0.Coords) : k0_off1 i = ![(i 1).val, 0] := by
  have h : (i 1).val < 2 := (i 1).isLt
  unfold k0_off1
  show ![(BitVec.ofNat 32 (i 1).val).toNat, 0] = _
  rw [BitVec.toNat_ofNat, Nat.mod_eq_of_lt (by omega)]

theorem off2_eq (i : grid0.Coords) : k0_off2 i = ![(i 1).val, 0] := off1_eq i

/-- The load of a row of the flags. -/
theorem ld_row (x : Vec F S2x24576 .f32) (i : grid0.Coords) (h) :
    View.ld x (Rect.unit (s := S2x24576) (k0_off1 i) (no_index S1x24576.size) h) = getRow (i 1) x := by
  funext y
  unfold getRow
  refine congrArg x (funext fun a => Fin.ext ?_)
  show k0_off1 i a + 1 * (y a).val = _
  have ho := congrFun (off1_eq i) a
  have h0 : (y 0).val < 1 := (y 0).isLt
  match a, ho with
  | ⟨0, _⟩, ho =>
    rw [ho]
    show (i 1).val + 1 * (y 0).val = (i 1).val
    omega
  | ⟨1, _⟩, ho =>
    rw [ho]
    show 0 + 1 * (y 1).val = (y 1).val
    omega

/-- The store of a row of the flags. -/
theorem set_row (M : Memref sig .tc .vmem S2x24576 .f32) (f) (i : grid0.Coords) (h : k0_cond5 i = 1#1) (w : Vec F S1x24576 .f32) :
    M.view.read (Elt F) (M.view.writes (Elt F) f [⟨Rect.unit (s := S2x24576) (k0_off2 i) S1x24576.size (k0_off2_inb i h), w⟩])
      = setRow (i 1).val (M.view.read (Elt F) f) w := by
  funext y
  unfold setRow
  split
  · rename_i hy
    refine View.read_writes_cons_hit_of_coords _ _ _ _ _ _ _ (fun a => ?_)
    show (y a).val = k0_off2 i a + 1 * _
    have ho := congrFun (off2_eq i) a
    match a, ho with
    | ⟨0, _⟩, ho =>
      rw [ho]
      show (y 0).val = (i 1).val + 1 * 0
      omega
    | ⟨1, _⟩, ho =>
      rw [ho]
      show (y 1).val = 0 + 1 * (y 1).val
      omega
  · rename_i hy
    rw [View.read_writes_cons_miss_of_axis _ _ _ _ y 0 (i 1).val 1 (congrFun (off2_eq i) 0) rfl rfl (by omega)]
    rfl

set_option maxHeartbeats 4000000 in
/-- The body at the very first grid point. -/
theorem bodyA (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : (Scalar.cmpi .ne (Scalar.extui (Scalar.cmpi .eq (BitVec.ofNat 32 (i 1).val) 0#32) : BitVec 32) 0#32 = 1#1))
    (c2 : ¬(k0_cond2 i = 1#1))
    (c5 : (k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (x10) ∗ owns c M11 fullShare (x11) ∗ owns c M12 fullShare (x12) ∗ owns c M13 fullShare (setRow (i 1).val x13 (posRow (BitVec.ofNat 32 (i 1).val) x3 x4)) ∗ owns c M14 fullShare (usedStep (BitVec.ofNat 32 (i 1).val) x3 x4 (k0_pay19 (F := F))) ∗ owns c M15 fullShare (x14) ∗ owns c M16 fullShare (nposStep (BitVec.ofNat 32 (i 1).val) x3 x4 (k0_pay20 (F := F))) ∗ owns c M17 fullShare (x16) ∗ owns c M18 fullShare (clsStep (BitVec.ofNat 32 (i 1).val) x2 x3 x4 (k0_pay21 (F := F))) ∗ owns c M19 fullShare (x18) ∗ owns c M20 fullShare (regStep (BitVec.ofNat 32 (i 1).val) x3 x4 x5 x6 (k0_pay10 (F := F))) ∗ owns c M21 fullShare (x20) ∗ owns c M22 fullShare (k0_pay11 (F := F))) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part1_eq_skeleton, k0_part5_eq_skeleton, k0_part6_eq_skeleton, k0_part7_eq_skeleton, k0_part8_eq_skeleton, k0_part9_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    exact e10
  isplitl [H11]
  · iexists _; isplitr; swap; (· iexact H11)
    ipureintro
    exact e11
  isplitl [H12]
  · iexists _; isplitr; swap; (· iexact H12)
    ipureintro
    exact e12
  isplitl [H13]
  · iexists _; isplitr; swap; (· iexact H13)
    ipureintro
    rw [set_row M13 f13 i c5, e13]
    sl_unfold_run_names
    simp (disch := decide) only [pay15_id, pay16_id, pay17_id, pay18_id, View.readCov, View.readAt_eq_ld, read_writes_unit, View.ld_unit_lit', ld_row, e2, e3, e4]
    rfl
  isplitl [H14]
  · iexists _; isplitr; swap; (· iexact H14)
    ipureintro
    refine (read_writes_unit M14.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H15]
  · iexists _; isplitr; swap; (· iexact H15)
    ipureintro
    refine (read_writes_unit M15.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H16]
  · iexists _; isplitr; swap; (· iexact H16)
    ipureintro
    refine (read_writes_unit M16.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H17]
  · iexists _; isplitr; swap; (· iexact H17)
    ipureintro
    refine (read_writes_unit M17.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H18]
  · iexists _; isplitr; swap; (· iexact H18)
    ipureintro
    refine (read_writes_unit M18.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H19]
  · iexists _; isplitr; swap; (· iexact H19)
    ipureintro
    refine (read_writes_unit M19.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H20]
  · iexists _; isplitr; swap; (· iexact H20)
    ipureintro
    refine (read_writes_unit M20.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H21]
  · iexists _; isplitr; swap; (· iexact H21)
    ipureintro
    refine (read_writes_unit M21.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  iexists _; isplitr; swap; (· iexact H22)
  ipureintro
  refine (read_writes_unit M22.view (by decide) _ _ _ _).trans ?_
  sl_unfold_run_names
  simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
  try rfl

set_option maxHeartbeats 4000000 in
/-- The body at the second half of the first image. -/
theorem bodyB (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : ¬(Scalar.cmpi .ne (Scalar.extui (Scalar.cmpi .eq (BitVec.ofNat 32 (i 1).val) 0#32) : BitVec 32) 0#32 = 1#1))
    (c2 : ¬(k0_cond2 i = 1#1))
    (c5 : (k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (x10) ∗ owns c M11 fullShare (x11) ∗ owns c M12 fullShare (x12) ∗ owns c M13 fullShare (setRow (i 1).val x13 (posRow (BitVec.ofNat 32 (i 1).val) x3 x4)) ∗ owns c M14 fullShare (usedStep (BitVec.ofNat 32 (i 1).val) x3 x4 x14) ∗ owns c M15 fullShare (x15) ∗ owns c M16 fullShare (nposStep (BitVec.ofNat 32 (i 1).val) x3 x4 x16) ∗ owns c M17 fullShare (x17) ∗ owns c M18 fullShare (clsStep (BitVec.ofNat 32 (i 1).val) x2 x3 x4 x18) ∗ owns c M19 fullShare (x19) ∗ owns c M20 fullShare (regStep (BitVec.ofNat 32 (i 1).val) x3 x4 x5 x6 x20) ∗ owns c M21 fullShare (x21) ∗ owns c M22 fullShare (x22)) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part5_eq_skeleton, k0_part6_eq_skeleton, k0_part7_eq_skeleton, k0_part8_eq_skeleton, k0_part9_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    exact e10
  isplitl [H11]
  · iexists _; isplitr; swap; (· iexact H11)
    ipureintro
    exact e11
  isplitl [H12]
  · iexists _; isplitr; swap; (· iexact H12)
    ipureintro
    exact e12
  isplitl [H13]
  · iexists _; isplitr; swap; (· iexact H13)
    ipureintro
    rw [set_row M13 f13 i c5, e13]
    sl_unfold_run_names
    simp (disch := decide) only [pay15_id, pay16_id, pay17_id, pay18_id, View.readCov, View.readAt_eq_ld, read_writes_unit, View.ld_unit_lit', ld_row, e2, e3, e4]
    rfl
  isplitl [H14]
  · iexists _; isplitr; swap; (· iexact H14)
    ipureintro
    refine (read_writes_unit M14.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H15]
  · iexists _; isplitr; swap; (· iexact H15)
    ipureintro
    exact e15
  isplitl [H16]
  · iexists _; isplitr; swap; (· iexact H16)
    ipureintro
    refine (read_writes_unit M16.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H17]
  · iexists _; isplitr; swap; (· iexact H17)
    ipureintro
    exact e17
  isplitl [H18]
  · iexists _; isplitr; swap; (· iexact H18)
    ipureintro
    refine (read_writes_unit M18.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H19]
  · iexists _; isplitr; swap; (· iexact H19)
    ipureintro
    exact e19
  isplitl [H20]
  · iexists _; isplitr; swap; (· iexact H20)
    ipureintro
    refine (read_writes_unit M20.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H21]
  · iexists _; isplitr; swap; (· iexact H21)
    ipureintro
    exact e21
  iexists _; isplitr; swap; (· iexact H22)
  ipureintro
  exact e22

set_option maxHeartbeats 4000000 in
/-- The body at the first half of a later image. -/
theorem bodyC (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : (Scalar.cmpi .ne (Scalar.extui (Scalar.cmpi .eq (BitVec.ofNat 32 (i 1).val) 0#32) : BitVec 32) 0#32 = 1#1))
    (c2 : (k0_cond2 i = 1#1))
    (c3 : ¬(k0_cond3 i = 1#1))
    (c5 : (k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (x10) ∗ owns c M11 fullShare (x11) ∗ owns c M12 fullShare (x12) ∗ owns c M13 fullShare (setRow (i 1).val x13 (posRow (BitVec.ofNat 32 (i 1).val) x3 x4)) ∗ owns c M14 fullShare (usedStep (BitVec.ofNat 32 (i 1).val) x3 x4 (k0_pay19 (F := F))) ∗ owns c M15 fullShare (x14) ∗ owns c M16 fullShare (nposStep (BitVec.ofNat 32 (i 1).val) x3 x4 (k0_pay20 (F := F))) ∗ owns c M17 fullShare (x16) ∗ owns c M18 fullShare (clsStep (BitVec.ofNat 32 (i 1).val) x2 x3 x4 (k0_pay21 (F := F))) ∗ owns c M19 fullShare (x18) ∗ owns c M20 fullShare (regStep (BitVec.ofNat 32 (i 1).val) x3 x4 x5 x6 (k0_pay10 (F := F))) ∗ owns c M21 fullShare (x20) ∗ owns c M22 fullShare (locStep x3 x7 x8 x9 x14 (getRow (i 1) x13) (k0_pay11 (F := F)))) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part1_eq_skeleton, k0_part3_eq_skeleton, k0_part4_eq_skeleton, k0_part5_eq_skeleton, k0_part6_eq_skeleton, k0_part7_eq_skeleton, k0_part8_eq_skeleton, k0_part9_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c3 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    exact e10
  isplitl [H11]
  · iexists _; isplitr; swap; (· iexact H11)
    ipureintro
    exact e11
  isplitl [H12]
  · iexists _; isplitr; swap; (· iexact H12)
    ipureintro
    exact e12
  isplitl [H13]
  · iexists _; isplitr; swap; (· iexact H13)
    ipureintro
    rw [set_row M13 f13 i c5, e13]
    sl_unfold_run_names
    simp (disch := decide) only [pay15_id, pay16_id, pay17_id, pay18_id, View.readCov, View.readAt_eq_ld, read_writes_unit, View.ld_unit_lit', ld_row, e2, e3, e4]
    rfl
  isplitl [H14]
  · iexists _; isplitr; swap; (· iexact H14)
    ipureintro
    refine (read_writes_unit M14.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H15]
  · iexists _; isplitr; swap; (· iexact H15)
    ipureintro
    refine (read_writes_unit M15.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H16]
  · iexists _; isplitr; swap; (· iexact H16)
    ipureintro
    refine (read_writes_unit M16.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H17]
  · iexists _; isplitr; swap; (· iexact H17)
    ipureintro
    refine (read_writes_unit M17.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H18]
  · iexists _; isplitr; swap; (· iexact H18)
    ipureintro
    refine (read_writes_unit M18.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H19]
  · iexists _; isplitr; swap; (· iexact H19)
    ipureintro
    refine (read_writes_unit M19.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H20]
  · iexists _; isplitr; swap; (· iexact H20)
    ipureintro
    refine (read_writes_unit M20.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H21]
  · iexists _; isplitr; swap; (· iexact H21)
    ipureintro
    refine (read_writes_unit M21.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  iexists _; isplitr; swap; (· iexact H22)
  ipureintro
  refine (read_writes_unit M22.view (by decide) _ _ _ _).trans ?_
  sl_unfold_run_names
  simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
  try rfl

set_option maxHeartbeats 4000000 in
/-- The body at the second half of the second image: the results start. -/
theorem bodyD (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : ¬(Scalar.cmpi .ne (Scalar.extui (Scalar.cmpi .eq (BitVec.ofNat 32 (i 1).val) 0#32) : BitVec 32) 0#32 = 1#1))
    (c2 : (k0_cond2 i = 1#1))
    (c3 : (k0_cond3 i = 1#1))
    (c4 : (k0_cond4 i = 1#1))
    (c5 : (k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (k0_pay27 x17 x19 (k0_pay24 (F := F))) ∗ owns c M11 fullShare (k0_pay28 x17 x21 (k0_pay25 (F := F))) ∗ owns c M12 fullShare (k0_pay13 (k0_pay23 x17 (locStep x3 x7 x8 x9 x15 (getRow (i 1) x13) x22)) (k0_pay26 (F := F))) ∗ owns c M13 fullShare (setRow (i 1).val x13 (posRow (BitVec.ofNat 32 (i 1).val) x3 x4)) ∗ owns c M14 fullShare (usedStep (BitVec.ofNat 32 (i 1).val) x3 x4 x14) ∗ owns c M15 fullShare (x15) ∗ owns c M16 fullShare (nposStep (BitVec.ofNat 32 (i 1).val) x3 x4 x16) ∗ owns c M17 fullShare (x17) ∗ owns c M18 fullShare (clsStep (BitVec.ofNat 32 (i 1).val) x2 x3 x4 x18) ∗ owns c M19 fullShare (x19) ∗ owns c M20 fullShare (regStep (BitVec.ofNat 32 (i 1).val) x3 x4 x5 x6 x20) ∗ owns c M21 fullShare (x21) ∗ owns c M22 fullShare (locStep x3 x7 x8 x9 x15 (getRow (i 1) x13) x22)) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part3_eq_skeleton, k0_part4_eq_skeleton, k0_part2_eq_skeleton, k0_part5_eq_skeleton, k0_part6_eq_skeleton, k0_part7_eq_skeleton, k0_part8_eq_skeleton, k0_part9_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c3 | sl_exact c4 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    refine (read_writes_unit M10.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H11]
  · iexists _; isplitr; swap; (· iexact H11)
    ipureintro
    refine (read_writes_unit M11.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H12]
  · iexists _; isplitr; swap; (· iexact H12)
    ipureintro
    refine (read_writes_unit M12.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H13]
  · iexists _; isplitr; swap; (· iexact H13)
    ipureintro
    rw [set_row M13 f13 i c5, e13]
    sl_unfold_run_names
    simp (disch := decide) only [pay15_id, pay16_id, pay17_id, pay18_id, View.readCov, View.readAt_eq_ld, read_writes_unit, View.ld_unit_lit', ld_row, e2, e3, e4]
    rfl
  isplitl [H14]
  · iexists _; isplitr; swap; (· iexact H14)
    ipureintro
    refine (read_writes_unit M14.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H15]
  · iexists _; isplitr; swap; (· iexact H15)
    ipureintro
    exact e15
  isplitl [H16]
  · iexists _; isplitr; swap; (· iexact H16)
    ipureintro
    refine (read_writes_unit M16.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H17]
  · iexists _; isplitr; swap; (· iexact H17)
    ipureintro
    exact e17
  isplitl [H18]
  · iexists _; isplitr; swap; (· iexact H18)
    ipureintro
    refine (read_writes_unit M18.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H19]
  · iexists _; isplitr; swap; (· iexact H19)
    ipureintro
    exact e19
  isplitl [H20]
  · iexists _; isplitr; swap; (· iexact H20)
    ipureintro
    refine (read_writes_unit M20.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H21]
  · iexists _; isplitr; swap; (· iexact H21)
    ipureintro
    exact e21
  iexists _; isplitr; swap; (· iexact H22)
  ipureintro
  refine (read_writes_unit M22.view (by decide) _ _ _ _).trans ?_
  sl_unfold_run_names
  simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
  try rfl

set_option maxHeartbeats 4000000 in
/-- The body at the second half of a later image. -/
theorem bodyE (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : ¬(Scalar.cmpi .ne (Scalar.extui (Scalar.cmpi .eq (BitVec.ofNat 32 (i 1).val) 0#32) : BitVec 32) 0#32 = 1#1))
    (c2 : (k0_cond2 i = 1#1))
    (c3 : (k0_cond3 i = 1#1))
    (c4 : ¬(k0_cond4 i = 1#1))
    (c5 : (k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (k0_pay27 x17 x19 x10) ∗ owns c M11 fullShare (k0_pay28 x17 x21 x11) ∗ owns c M12 fullShare (k0_pay13 (k0_pay23 x17 (locStep x3 x7 x8 x9 x15 (getRow (i 1) x13) x22)) x12) ∗ owns c M13 fullShare (setRow (i 1).val x13 (posRow (BitVec.ofNat 32 (i 1).val) x3 x4)) ∗ owns c M14 fullShare (usedStep (BitVec.ofNat 32 (i 1).val) x3 x4 x14) ∗ owns c M15 fullShare (x15) ∗ owns c M16 fullShare (nposStep (BitVec.ofNat 32 (i 1).val) x3 x4 x16) ∗ owns c M17 fullShare (x17) ∗ owns c M18 fullShare (clsStep (BitVec.ofNat 32 (i 1).val) x2 x3 x4 x18) ∗ owns c M19 fullShare (x19) ∗ owns c M20 fullShare (regStep (BitVec.ofNat 32 (i 1).val) x3 x4 x5 x6 x20) ∗ owns c M21 fullShare (x21) ∗ owns c M22 fullShare (locStep x3 x7 x8 x9 x15 (getRow (i 1) x13) x22)) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part3_eq_skeleton, k0_part4_eq_skeleton, k0_part2_eq_skeleton, k0_part5_eq_skeleton, k0_part6_eq_skeleton, k0_part7_eq_skeleton, k0_part8_eq_skeleton, k0_part9_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c3 | sl_exact c4 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    refine (read_writes_unit M10.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H11]
  · iexists _; isplitr; swap; (· iexact H11)
    ipureintro
    refine (read_writes_unit M11.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H12]
  · iexists _; isplitr; swap; (· iexact H12)
    ipureintro
    refine (read_writes_unit M12.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H13]
  · iexists _; isplitr; swap; (· iexact H13)
    ipureintro
    rw [set_row M13 f13 i c5, e13]
    sl_unfold_run_names
    simp (disch := decide) only [pay15_id, pay16_id, pay17_id, pay18_id, View.readCov, View.readAt_eq_ld, read_writes_unit, View.ld_unit_lit', ld_row, e2, e3, e4]
    rfl
  isplitl [H14]
  · iexists _; isplitr; swap; (· iexact H14)
    ipureintro
    refine (read_writes_unit M14.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H15]
  · iexists _; isplitr; swap; (· iexact H15)
    ipureintro
    exact e15
  isplitl [H16]
  · iexists _; isplitr; swap; (· iexact H16)
    ipureintro
    refine (read_writes_unit M16.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H17]
  · iexists _; isplitr; swap; (· iexact H17)
    ipureintro
    exact e17
  isplitl [H18]
  · iexists _; isplitr; swap; (· iexact H18)
    ipureintro
    refine (read_writes_unit M18.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H19]
  · iexists _; isplitr; swap; (· iexact H19)
    ipureintro
    exact e19
  isplitl [H20]
  · iexists _; isplitr; swap; (· iexact H20)
    ipureintro
    refine (read_writes_unit M20.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H21]
  · iexists _; isplitr; swap; (· iexact H21)
    ipureintro
    exact e21
  iexists _; isplitr; swap; (· iexact H22)
  ipureintro
  refine (read_writes_unit M22.view (by decide) _ _ _ _).trans ?_
  sl_unfold_run_names
  simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
  try rfl

set_option maxHeartbeats 4000000 in
/-- The body at the first point past the last image. -/
theorem bodyF (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : (Scalar.cmpi .ne (Scalar.extui (Scalar.cmpi .eq (BitVec.ofNat 32 (i 1).val) 0#32) : BitVec 32) 0#32 = 1#1))
    (c2 : (k0_cond2 i = 1#1))
    (c3 : ¬(k0_cond3 i = 1#1))
    (c5 : ¬(k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (x10) ∗ owns c M11 fullShare (x11) ∗ owns c M12 fullShare (x12) ∗ owns c M13 fullShare (x13) ∗ owns c M14 fullShare (k0_pay19 (F := F)) ∗ owns c M15 fullShare (x14) ∗ owns c M16 fullShare (k0_pay20 (F := F)) ∗ owns c M17 fullShare (x16) ∗ owns c M18 fullShare (k0_pay21 (F := F)) ∗ owns c M19 fullShare (x18) ∗ owns c M20 fullShare (k0_pay10 (F := F)) ∗ owns c M21 fullShare (x20) ∗ owns c M22 fullShare (locStep x3 x7 x8 x9 x14 (getRow (i 1) x13) (k0_pay11 (F := F)))) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part1_eq_skeleton, k0_part3_eq_skeleton, k0_part4_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c3 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    exact e10
  isplitl [H11]
  · iexists _; isplitr; swap; (· iexact H11)
    ipureintro
    exact e11
  isplitl [H12]
  · iexists _; isplitr; swap; (· iexact H12)
    ipureintro
    exact e12
  isplitl [H13]
  · iexists _; isplitr; swap; (· iexact H13)
    ipureintro
    exact e13
  isplitl [H14]
  · iexists _; isplitr; swap; (· iexact H14)
    ipureintro
    refine (read_writes_unit M14.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H15]
  · iexists _; isplitr; swap; (· iexact H15)
    ipureintro
    refine (read_writes_unit M15.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H16]
  · iexists _; isplitr; swap; (· iexact H16)
    ipureintro
    refine (read_writes_unit M16.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H17]
  · iexists _; isplitr; swap; (· iexact H17)
    ipureintro
    refine (read_writes_unit M17.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H18]
  · iexists _; isplitr; swap; (· iexact H18)
    ipureintro
    refine (read_writes_unit M18.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H19]
  · iexists _; isplitr; swap; (· iexact H19)
    ipureintro
    refine (read_writes_unit M19.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H20]
  · iexists _; isplitr; swap; (· iexact H20)
    ipureintro
    refine (read_writes_unit M20.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H21]
  · iexists _; isplitr; swap; (· iexact H21)
    ipureintro
    refine (read_writes_unit M21.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  iexists _; isplitr; swap; (· iexact H22)
  ipureintro
  refine (read_writes_unit M22.view (by decide) _ _ _ _).trans ?_
  sl_unfold_run_names
  simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
  try rfl

set_option maxHeartbeats 4000000 in
/-- The body at the last point. -/
theorem bodyG (𝒱₀ : Variants) (c : Dev nD) (i : grid0.Coords)
    (M2 : Memref sig .tc .vmem S1x24576x80 .f32) (hM2 : M2.IsWhole)
    (M3 : Memref sig .tc .vmem S4x24576 .f32) (hM3 : M3.IsWhole)
    (M4 : Memref sig .tc .vmem S1x32x5 .f32) (hM4 : M4.IsWhole)
    (M5 : Memref sig .tc .vmem S1x5x32 .f32) (hM5 : M5.IsWhole)
    (M6 : Memref sig .tc .vmem S1x4x24576 .f32) (hM6 : M6.IsWhole)
    (M7 : Memref sig .tc .vmem S1x32x5 .f32) (hM7 : M7.IsWhole)
    (M8 : Memref sig .tc .vmem S1x4x24576 .f32) (hM8 : M8.IsWhole)
    (M9 : Memref sig .tc .vmem S1x1x24576 .f32) (hM9 : M9.IsWhole)
    (M10 : Memref sig .tc .vmem S1x1 .f32) (hM10 : M10.IsWhole)
    (M11 : Memref sig .tc .vmem S1x1 .f32) (hM11 : M11.IsWhole)
    (M12 : Memref sig .tc .vmem S1x1 .f32) (hM12 : M12.IsWhole)
    (M13 : Memref sig .tc .vmem S2x24576 .f32) (hM13 : M13.IsWhole)
    (M14 : Memref sig .tc .vmem S32x1 .f32) (hM14 : M14.IsWhole)
    (M15 : Memref sig .tc .vmem S32x1 .f32) (hM15 : M15.IsWhole)
    (M16 : Memref sig .tc .vmem S1x1 .f32) (hM16 : M16.IsWhole)
    (M17 : Memref sig .tc .vmem S1x1 .f32) (hM17 : M17.IsWhole)
    (M18 : Memref sig .tc .vmem S1x1 .f32) (hM18 : M18.IsWhole)
    (M19 : Memref sig .tc .vmem S1x1 .f32) (hM19 : M19.IsWhole)
    (M20 : Memref sig .tc .vmem S1x1 .f32) (hM20 : M20.IsWhole)
    (M21 : Memref sig .tc .vmem S1x1 .f32) (hM21 : M21.IsWhole)
    (M22 : Memref sig .tc .vmem S1x1 .f32) (hM22 : M22.IsWhole)
    (x2 : Vec F S1x24576x80 .f32)
    (x3 : Vec F S4x24576 .f32)
    (x4 : Vec F S1x32x5 .f32)
    (x5 : Vec F S1x5x32 .f32)
    (x6 : Vec F S1x4x24576 .f32)
    (x7 : Vec F S1x32x5 .f32)
    (x8 : Vec F S1x4x24576 .f32)
    (x9 : Vec F S1x1x24576 .f32)
    (x10 : Vec F S1x1 .f32)
    (x11 : Vec F S1x1 .f32)
    (x12 : Vec F S1x1 .f32)
    (x13 : Vec F S2x24576 .f32)
    (x14 : Vec F S32x1 .f32)
    (x15 : Vec F S32x1 .f32)
    (x16 : Vec F S1x1 .f32)
    (x17 : Vec F S1x1 .f32)
    (x18 : Vec F S1x1 .f32)
    (x19 : Vec F S1x1 .f32)
    (x20 : Vec F S1x1 .f32)
    (x21 : Vec F S1x1 .f32)
    (x22 : Vec F S1x1 .f32)
    (c1 : ¬(Scalar.cmpi .ne (Scalar.extui (Scalar.cmpi .eq (BitVec.ofNat 32 (i 1).val) 0#32) : BitVec 32) 0#32 = 1#1))
    (c2 : (k0_cond2 i = 1#1))
    (c3 : (k0_cond3 i = 1#1))
    (c4 : ¬(k0_cond4 i = 1#1))
    (c5 : ¬(k0_cond5 i = 1#1))
    (E : Set ℕ) (Q : PUnit → sProp 𝕄) :
    iprop((owns c M2 fullShare x2 ∗ owns c M3 fullShare x3 ∗ owns c M4 fullShare x4 ∗ owns c M5 fullShare x5 ∗ owns c M6 fullShare x6 ∗ owns c M7 fullShare x7 ∗ owns c M8 fullShare x8 ∗ owns c M9 fullShare x9 ∗ owns c M10 fullShare x10 ∗ owns c M11 fullShare x11 ∗ owns c M12 fullShare x12 ∗ owns c M13 fullShare x13 ∗ owns c M14 fullShare x14 ∗ owns c M15 fullShare x15 ∗ owns c M16 fullShare x16 ∗ owns c M17 fullShare x17 ∗ owns c M18 fullShare x18 ∗ owns c M19 fullShare x19 ∗ owns c M20 fullShare x20 ∗ owns c M21 fullShare x21 ∗ owns c M22 fullShare x22)
      ∗ ((owns c M2 fullShare (x2) ∗ owns c M3 fullShare (x3) ∗ owns c M4 fullShare (x4) ∗ owns c M5 fullShare (x5) ∗ owns c M6 fullShare (x6) ∗ owns c M7 fullShare (x7) ∗ owns c M8 fullShare (x8) ∗ owns c M9 fullShare (x9) ∗ owns c M10 fullShare (k0_pay27 x17 x19 x10) ∗ owns c M11 fullShare (k0_pay28 x17 x21 x11) ∗ owns c M12 fullShare (k0_pay13 (k0_pay23 x17 (locStep x3 x7 x8 x9 x15 (getRow (i 1) x13) x22)) x12) ∗ owns c M13 fullShare (x13) ∗ owns c M14 fullShare (x14) ∗ owns c M15 fullShare (x15) ∗ owns c M16 fullShare (x16) ∗ owns c M17 fullShare (x17) ∗ owns c M18 fullShare (x18) ∗ owns c M19 fullShare (x19) ∗ owns c M20 fullShare (x20) ∗ owns c M21 fullShare (x21) ∗ owns c M22 fullShare (locStep x3 x7 x8 x9 x15 (getRow (i 1) x13) x22)) -∗ Q ⟨⟩))
    ⊢ wp frame (wpE defs₀ 𝒱₀ (c : Thread nD τ) none) E (cc0__kernel i M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22) Q := by
  simp only [cc0__kernel_eq_skeleton]; unfold cc0__kernel_skel
  simp only [k0_part3_eq_skeleton, k0_part4_eq_skeleton, k0_part2_eq_skeleton]
  simp only [owns]
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩⟩, Hk⟩
  sl_exec (disch := first | sl_exact c1 | sl_exact c2 | sl_exact c3 | sl_exact c4 | sl_exact c5)
  sl_step
  iapply Hk
  isplitl [H2]
  · iexists _; isplitr; swap; (· iexact H2)
    ipureintro
    exact e2
  isplitl [H3]
  · iexists _; isplitr; swap; (· iexact H3)
    ipureintro
    exact e3
  isplitl [H4]
  · iexists _; isplitr; swap; (· iexact H4)
    ipureintro
    exact e4
  isplitl [H5]
  · iexists _; isplitr; swap; (· iexact H5)
    ipureintro
    exact e5
  isplitl [H6]
  · iexists _; isplitr; swap; (· iexact H6)
    ipureintro
    exact e6
  isplitl [H7]
  · iexists _; isplitr; swap; (· iexact H7)
    ipureintro
    exact e7
  isplitl [H8]
  · iexists _; isplitr; swap; (· iexact H8)
    ipureintro
    exact e8
  isplitl [H9]
  · iexists _; isplitr; swap; (· iexact H9)
    ipureintro
    exact e9
  isplitl [H10]
  · iexists _; isplitr; swap; (· iexact H10)
    ipureintro
    refine (read_writes_unit M10.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H11]
  · iexists _; isplitr; swap; (· iexact H11)
    ipureintro
    refine (read_writes_unit M11.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H12]
  · iexists _; isplitr; swap; (· iexact H12)
    ipureintro
    refine (read_writes_unit M12.view (by decide) _ _ _ _).trans ?_
    sl_unfold_run_names
    simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
    try rfl
  isplitl [H13]
  · iexists _; isplitr; swap; (· iexact H13)
    ipureintro
    exact e13
  isplitl [H14]
  · iexists _; isplitr; swap; (· iexact H14)
    ipureintro
    exact e14
  isplitl [H15]
  · iexists _; isplitr; swap; (· iexact H15)
    ipureintro
    exact e15
  isplitl [H16]
  · iexists _; isplitr; swap; (· iexact H16)
    ipureintro
    exact e16
  isplitl [H17]
  · iexists _; isplitr; swap; (· iexact H17)
    ipureintro
    exact e17
  isplitl [H18]
  · iexists _; isplitr; swap; (· iexact H18)
    ipureintro
    exact e18
  isplitl [H19]
  · iexists _; isplitr; swap; (· iexact H19)
    ipureintro
    exact e19
  isplitl [H20]
  · iexists _; isplitr; swap; (· iexact H20)
    ipureintro
    exact e20
  isplitl [H21]
  · iexists _; isplitr; swap; (· iexact H21)
    ipureintro
    exact e21
  iexists _; isplitr; swap; (· iexact H22)
  ipureintro
  refine (read_writes_unit M22.view (by decide) _ _ _ _).trans ?_
  sl_unfold_run_names
  simp (disch := decide) only [pay15_id, pay16_id, pay17_id, pay18_id, View.readCov, View.readAt_eq_ld, read_writes_unit, View.ld_unit_lit', ld_row, e2, e3, e4, e5, e6, e7, e8, e9, e10, e11, e12, e13, e14, e15, e16, e17, e18, e19, e20, e21, e22]
  try rfl

end Cert.KernelIdeal.Hand

end
-- ==== Proof.IKit.lean ====
module

public import proofs.«01_k».proof.Proof.IBody
public import Idealize.ShloMosaic.Lib.Pipeline.Frame
public import Idealize.ShloMosaic.Lib.Ring

@[expose] public section

set_option maxRecDepth 16384
set_option synthInstance.maxSize 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers of core `c` hold when the pipeline starts: the launch contents after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 1600000 in
/-- The program up to the pipeline: seven stretches of host operations. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 1600000 in
/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      Finset.mem_singleton]
    repeat' apply And.intro
    all_goals exact StableHlo.devRef_ne_of_ne (by decide)))

set_option maxHeartbeats 1600000 in
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      Finset.mem_singleton]
    repeat' apply And.intro
    all_goals exact StableHlo.devRef_ne_of_ne (by decide)))

set_option maxHeartbeats 1600000 in
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      Finset.mem_singleton]
    repeat' apply And.intro
    all_goals exact StableHlo.devRef_ne_of_ne (by decide)))

set_option maxHeartbeats 1600000 in
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      Finset.mem_singleton]
    repeat' apply And.intro
    all_goals exact StableHlo.devRef_ne_of_ne (by decide)))

set_option maxHeartbeats 1600000 in
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      Finset.mem_singleton]
    repeat' apply And.intro
    all_goals exact StableHlo.devRef_ne_of_ne (by decide)))

set_option maxHeartbeats 1600000 in
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes,
      Finset.mem_singleton]
    repeat' apply And.intro
    all_goals exact StableHlo.devRef_ne_of_ne (by decide)))

end Cert.KernelIdeal.Hand

end
-- ==== Proof.IFlow.lean ====
module

public import proofs.«01_k».proof.Proof.IKit

@[expose] public section

set_option maxRecDepth 16384
set_option synthInstance.maxSize 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows hold -/

/-- Window `w`'s part of its array at point `t`, as the pipeline finds the array. -/
def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
/-- What a buffer of window `w` holds after a fetch at point `t` over the contents `d`. -/
def fillAt (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (blkAt m c w t)
/-- Some contents, for the part of a buffer that no fetch reaches. -/
def junk (w : Fin cfg0.W) : (cfg0.win w).block.Idx → Elt F (cfg0.win w).elt := fun _ => Classical.arbitrary _
/-- The `n`th grid point. -/
def pt (n : ℕ) : Fin cfg0.N := ⟨n % 18, Nat.mod_lt _ (by decide)⟩
theorem pt_val (t : Fin cfg0.N) : pt t.val = t := Fin.ext (Nat.mod_eq_of_lt t.isLt)

/-- Input window 0's contents at point `n`. -/
def X0 (c : Dev nD) (n : ℕ) : Vec F S1x24576x80 .f32 := fillAt m c 0 (pt n) (junk 0)
/-- Input window 1's contents at point `n`. -/
def X1 (c : Dev nD) (n : ℕ) : Vec F S4x24576 .f32 := fillAt m c 1 (pt n) (junk 1)
/-- Input window 2's contents at point `n`. -/
def X2 (c : Dev nD) (n : ℕ) : Vec F S1x32x5 .f32 := fillAt m c 2 (pt n) (junk 2)
/-- Input window 3's contents at point `n`. -/
def X3 (c : Dev nD) (n : ℕ) : Vec F S1x5x32 .f32 := fillAt m c 3 (pt n) (junk 3)
/-- Input window 4's contents at point `n`. -/
def X4 (c : Dev nD) (n : ℕ) : Vec F S1x4x24576 .f32 := fillAt m c 4 (pt n) (junk 4)
/-- Input window 5's contents at point `n`. -/
def X5 (c : Dev nD) (n : ℕ) : Vec F S1x32x5 .f32 := fillAt m c 5 (pt n) (junk 5)
/-- Input window 6's contents at point `n`. -/
def X6 (c : Dev nD) (n : ℕ) : Vec F S1x4x24576 .f32 := fillAt m c 6 (pt n) (junk 6)
/-- Input window 7's contents at point `n`. -/
def X7 (c : Dev nD) (n : ℕ) : Vec F S1x1x24576 .f32 := fillAt m c 7 (pt n) (junk 7)

/-! ## The values, image by image -/

/-- The boxes of image `b` used by the first half of the anchors, and by all of them. -/
def used1 (c : Dev nD) (b : ℕ) : Vec F S32x1 .f32 := usedStep 0#32 (X1 m c (2*b)) (X2 m c (2*b)) (k0_pay19 (F := F))
def used2 (c : Dev nD) (b : ℕ) : Vec F S32x1 .f32 := usedStep 1#32 (X1 m c (2*b+1)) (X2 m c (2*b+1)) (used1 m c b)
/-- The number of positive anchors of image `b` in the first half, and in all. -/
def npos1 (c : Dev nD) (b : ℕ) : Vec F S1x1 .f32 := nposStep 0#32 (X1 m c (2*b)) (X2 m c (2*b)) (k0_pay20 (F := F))
def npos2 (c : Dev nD) (b : ℕ) : Vec F S1x1 .f32 := nposStep 1#32 (X1 m c (2*b+1)) (X2 m c (2*b+1)) (npos1 m c b)
/-- The classification sum of image `b` over the first half, and over all. -/
def cls1 (c : Dev nD) (b : ℕ) : Vec F S1x1 .f32 := clsStep 0#32 (X0 m c (2*b)) (X1 m c (2*b)) (X2 m c (2*b)) (k0_pay21 (F := F))
def cls2 (c : Dev nD) (b : ℕ) : Vec F S1x1 .f32 := clsStep 1#32 (X0 m c (2*b+1)) (X1 m c (2*b+1)) (X2 m c (2*b+1)) (cls1 m c b)
/-- The regression sum of image `b` over the first half, and over all. -/
def reg1 (c : Dev nD) (b : ℕ) : Vec F S1x1 .f32 := regStep 0#32 (X1 m c (2*b)) (X2 m c (2*b)) (X3 m c (2*b)) (X4 m c (2*b)) (k0_pay10 (F := F))
def reg2 (c : Dev nD) (b : ℕ) : Vec F S1x1 .f32 := regStep 1#32 (X1 m c (2*b+1)) (X2 m c (2*b+1)) (X3 m c (2*b+1)) (X4 m c (2*b+1)) (reg1 m c b)
/-- The positive flags of image `b`, by halves. -/
def pos0 (c : Dev nD) (b : ℕ) : Vec F S1x24576 .f32 := posRow 0#32 (X1 m c (2*b)) (X2 m c (2*b))
def pos1 (c : Dev nD) (b : ℕ) : Vec F S1x24576 .f32 := posRow 1#32 (X1 m c (2*b+1)) (X2 m c (2*b+1))
/-- The location sum of image `b` over the first half, and over all: taken two points later. -/
def loc1 (c : Dev nD) (b : ℕ) : Vec F S1x1 .f32 :=
  locStep (X1 m c (2*b+2)) (X5 m c (2*b+2)) (X6 m c (2*b+2)) (X7 m c (2*b+2)) (used2 m c b) (pos0 m c b) (k0_pay11 (F := F))
def loc2 (c : Dev nD) (b : ℕ) : Vec F S1x1 .f32 :=
  locStep (X1 m c (2*b+3)) (X5 m c (2*b+3)) (X6 m c (2*b+3)) (X7 m c (2*b+3)) (used2 m c b) (pos1 m c b) (loc1 m c b)
/-- The three results after images 0 to `b`. -/
def oc (c : Dev nD) : ℕ → Vec F S1x1 .f32
  | 0 => k0_pay27 (npos2 m c 0) (cls2 m c 0) (k0_pay24 (F := F))
  | b + 1 => k0_pay27 (npos2 m c (b+1)) (cls2 m c (b+1)) (oc c b)
def or (c : Dev nD) : ℕ → Vec F S1x1 .f32
  | 0 => k0_pay28 (npos2 m c 0) (reg2 m c 0) (k0_pay25 (F := F))
  | b + 1 => k0_pay28 (npos2 m c (b+1)) (reg2 m c (b+1)) (or c b)
def ol (c : Dev nD) : ℕ → Vec F S1x1 .f32
  | 0 => k0_pay13 (k0_pay23 (npos2 m c 0) (loc2 m c 0)) (k0_pay26 (F := F))
  | b + 1 => k0_pay13 (k0_pay23 (npos2 m c (b+1)) (loc2 m c (b+1))) (ol c b)

/-! ## What the scratch buffers hold -/

/-- After the first half of image `b`: the running values. -/
def CurA (c : Dev nD) (b : ℕ) (x13 : Vec F S2x24576 .f32) (x14 : Vec F S32x1 .f32) (x16 x18 x20 : Vec F S1x1 .f32) : Prop :=
  x14 = used1 m c b ∧ x16 = npos1 m c b ∧ x18 = cls1 m c b ∧ x20 = reg1 m c b ∧ getRow 0 x13 = pos0 m c b
/-- After the first half of the next image: the previous image's values. -/
def PrevA (c : Dev nD) (b : ℕ) (x13 : Vec F S2x24576 .f32) (x15 : Vec F S32x1 .f32) (x17 x19 x21 x22 : Vec F S1x1 .f32) : Prop :=
  x15 = used2 m c b ∧ x17 = npos2 m c b ∧ x19 = cls2 m c b ∧ x21 = reg2 m c b ∧ x22 = loc1 m c b ∧ getRow 1 x13 = pos1 m c b
/-- After the second half of image `b`: its values. -/
def CurB (c : Dev nD) (b : ℕ) (x13 : Vec F S2x24576 .f32) (x14 : Vec F S32x1 .f32) (x16 x18 x20 : Vec F S1x1 .f32) : Prop :=
  x14 = used2 m c b ∧ x16 = npos2 m c b ∧ x18 = cls2 m c b ∧ x20 = reg2 m c b ∧ getRow 0 x13 = pos0 m c b ∧ getRow 1 x13 = pos1 m c b
/-- What the scratch buffers hold before point `n`. -/
def Inv (c : Dev nD) (n : ℕ) (x13 : Vec F S2x24576 .f32) (x14 x15 : Vec F S32x1 .f32) (x16 x17 x18 x19 x20 x21 x22 : Vec F S1x1 .f32) : Prop :=
  (n % 2 = 1 → n < 17 → CurA m c (n/2) x13 x14 x16 x18 x20)
  ∧ (n % 2 = 1 → 3 ≤ n → PrevA m c (n/2 - 1) x13 x15 x17 x19 x21 x22)
  ∧ (n % 2 = 0 → 2 ≤ n → n < 18 → CurB m c (n/2 - 1) x13 x14 x16 x18 x20)

theorem getRow_setRow_same (x : Vec F S2x24576 .f32) (w : Vec F S1x24576 .f32) (k : Fin 2) : getRow k (setRow k.val x w) = w := by
  funext y
  unfold getRow setRow
  have : (ValueIdx.ix2 k (y 1 : Fin 24576) 0).val = k.val := rfl
  rw [if_pos this]
  exact congrArg w (funext fun a => by
    match a with
    | ⟨0, _⟩ => exact Fin.ext (by have := (y 0).isLt; show 0 = (y 0).val; have h : (y 0).val < 1 := this; omega)
    | ⟨1, _⟩ => rfl)
theorem getRow_setRow_ne (x : Vec F S2x24576 .f32) (w : Vec F S1x24576 .f32) (k : Fin 2) (j : ℕ) (h : k.val ≠ j) :
    getRow k (setRow j x w) = getRow k x := by
  funext y
  unfold getRow setRow
  have : ¬ (ValueIdx.ix2 k (y 1 : Fin 24576) 0).val = j := h
  rw [if_neg this]

/-! ## The grid -/

theorem coord1 : ∀ t : Fin grid0.N, ((grid0.coords t) 1).val = t.val % 2 := by decide +kernel
theorem cond1_iff : ∀ t : Fin grid0.N, (Scalar.cmpi .ne (Scalar.extui (Scalar.cmpi .eq (BitVec.ofNat 32 ((grid0.coords t) 1).val) 0#32) : BitVec 32) 0#32 = 1#1) ↔ t.val % 2 = 0 := by
  decide +kernel
theorem cond2_iff : ∀ t : Fin grid0.N, k0_cond2 (grid0.coords t) = 1#1 ↔ 2 ≤ t.val := by decide +kernel
theorem cond3_iff : ∀ t : Fin grid0.N, k0_cond3 (grid0.coords t) = 1#1 ↔ t.val % 2 = 1 := by decide +kernel
theorem cond4_iff : ∀ t : Fin grid0.N, 2 ≤ t.val → (k0_cond4 (grid0.coords t) = 1#1 ↔ t.val = 2 ∨ t.val = 3) := by decide +kernel
theorem cond5_iff : ∀ t : Fin grid0.N, k0_cond5 (grid0.coords t) = 1#1 ↔ t.val < 16 := by decide +kernel
theorem fetch_0 : ∀ t : Fin grid0.N, t.val < 16 → win0_0.fetch t = true := by decide +kernel

/-! ## The classification block's rows past the array -/

theorem moved0 : ∀ t : Fin grid0.N, t.val < 16 → ∀ r : ℕ, r < 24576 → t.val % 2 * 24576 + r < 49104 → r < win0_0.xsize (grid0.coords t) 1 := by
  have h : ∀ t : Fin grid0.N, t.val < 16 → win0_0.xsize (grid0.coords t) 1 = if t.val % 2 = 0 then 24576 else 24528 := by decide +kernel
  intro t ht r hr h2
  rw [h t ht]
  split <;> omega
theorem xs0 : ∀ t : Fin grid0.N, win0_0.xsize (grid0.coords t) 0 = 1 := by decide +kernel
theorem xs2 : ∀ t : Fin grid0.N, win0_0.xsize (grid0.coords t) 2 = 80 := by decide +kernel

end Cert.KernelIdeal.Hand

end
-- ==== Proof.IData.lean ====
module

public import proofs.«01_k».proof.Proof.IFlow
public import Idealize.ShloMosaic.Lib.Tactic.WordOmega

@[expose] public section

set_option maxRecDepth 16384
set_option synthInstance.maxSize 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The classification payload takes nothing from the rows that no fetch reaches. -/
theorem pay61_fill (t : Fin grid0.N) (ht : t.val < 16) (d d' : S1x24576x80.Idx → Elt F .f32) (g) :
    k0_pay61 (F := F) (BitVec.ofNat 32 (t.val % 2)) (win0_0.fill (grid0.coords t) d g)
      = k0_pay61 (BitVec.ofNat 32 (t.val % 2)) (win0_0.fill (grid0.coords t) d' g) := by
  funext j
  unfold k0_pay61
  simp only [ValueIdx.select_apply, cmpi_apply, addi_apply, ValueIdx.broadcast_apply]
  rw [iota_single_apply .tc S24576x80 32 (0 : Fin 2), shapeCast_dropUnit_apply ![24576, 80], shapeCast_dropUnit_apply ![24576, 80]]
  have hj : (j 0).val < 24576 := (j 0).isLt
  have h1 : (j 1).val < 80 := (j 1).isLt
  by_cases hb : t.val % 2 * 24576 + (j 0).val < 49104
  · have hm : win0_0.moved (grid0.coords t) (Fin.cons ⟨0, Nat.one_pos⟩ j) = true := (win0_0.moved_iff _ _).mpr fun a => by
      match a with
      | ⟨0, _⟩ => exact lt_of_lt_of_eq Nat.one_pos (xs0 t).symm
      | ⟨1, _⟩ => exact moved0 t ht _ hj hb
      | ⟨2, _⟩ => exact lt_of_lt_of_eq h1 (xs2 t).symm
    unfold Window.fill
    rw [dif_pos hm, dif_pos hm]
  · have hc : IntOp.cmpi .slt (IntOp.addi (Scalar.muli (BitVec.ofNat 32 (t.val % 2)) 24576#32) (BitVec.ofNat 32 (j 0).val)) 49104#32 = 0#1 := by
      have h2 : t.val % 2 = 0 ∨ t.val % 2 = 1 := by omega
      rcases h2 with h2 | h2
      · omega
      · rw [h2] at hb ⊢
        have e : Scalar.muli (BitVec.ofNat 32 1) 24576#32 = 24576#32 := by decide
        rw [e]
        have : ¬ (IntOp.cmpi .slt (IntOp.addi 24576#32 (BitVec.ofNat 32 (j 0).val)) 49104#32 = 1#1) := by
          have hn : (BitVec.ofNat 32 (j 0).val).toNat = (j 0).val := by rw [BitVec.toNat_ofNat]; omega
          generalize BitVec.ofNat 32 (j 0).val = w at *
          word_omega
        generalize IntOp.cmpi .slt (IntOp.addi 24576#32 (BitVec.ofNat 32 (j 0).val)) 49104#32 = x at *
        revert this; revert x; decide
    rw [hc]; rfl

/-- Nor does the classification sum. -/
theorem clsStep_fill (c : Dev nD) (t : Fin cfg0.N) (ht : t.val < 16) (d d' : S1x24576x80.Idx → Elt F .f32)
    (x3 : Vec F S4x24576 .f32) (x4 : Vec F S1x32x5 .f32) (u : Vec F S1x1 .f32) :
    clsStep (BitVec.ofNat 32 (t.val % 2)) (fillAt m c 0 t d) x3 x4 u = clsStep (BitVec.ofNat 32 (t.val % 2)) (fillAt m c 0 t d') x3 x4 u := by
  have h : k0_pay61 (F := F) (BitVec.ofNat 32 (t.val % 2)) (fillAt m c 0 t d) = k0_pay61 (BitVec.ofNat 32 (t.val % 2)) (fillAt m c 0 t d') :=
    pay61_fill (F := F) t ht d d' (blkAt m c 0 t)
  have h62 : k0_pay62 (BitVec.ofNat 32 (t.val % 2)) (fillAt m c 0 t d) = k0_pay62 (BitVec.ofNat 32 (t.val % 2)) (fillAt m c 0 t d') := by
    unfold k0_pay62; rw [h]
  have h63 : ∀ l, k0_pay63 (BitVec.ofNat 32 (t.val % 2)) l (fillAt m c 0 t d) = k0_pay63 (BitVec.ofNat 32 (t.val % 2)) l (fillAt m c 0 t d') := by
    intro l; unfold k0_pay63; rw [h]
  unfold clsStep
  rw [h62, h63]

section Steps
variable {m} {c : Dev nD} {b : ℕ} {x2 : Vec F S1x24576x80 .f32} {x3 : Vec F S4x24576 .f32} {x4 : Vec F S1x32x5 .f32} {x5 : Vec F S1x5x32 .f32}
  {x6 : Vec F S1x4x24576 .f32} {x7 : Vec F S1x32x5 .f32} {x8 : Vec F S1x4x24576 .f32} {x9 : Vec F S1x1x24576 .f32}
  {x13 : Vec F S2x24576 .f32} {x14 x15 : Vec F S32x1 .f32} {x16 x17 x18 x19 x20 x21 x22 z : Vec F S1x1 .f32}

/-- The first image's first half. -/
theorem invA (h3 : x3 = X1 m c 0) (h4 : x4 = X2 m c 0) (h5 : x5 = X3 m c 0) (h6 : x6 = X4 m c 0)
    (hc : ∀ u, clsStep 0#32 x2 x3 x4 u = clsStep 0#32 (X0 m c 0) x3 x4 u) :
    Inv m c 1 (setRow 0 x13 (posRow 0#32 x3 x4)) (usedStep 0#32 x3 x4 (k0_pay19 (F := F))) x14 (nposStep 0#32 x3 x4 (k0_pay20 (F := F))) x16
      (clsStep 0#32 x2 x3 x4 (k0_pay21 (F := F))) x18 (regStep 0#32 x3 x4 x5 x6 (k0_pay10 (F := F))) x20 z := by
  refine ⟨fun _ _ => ⟨?_, ?_, ?_, ?_, ?_⟩, fun _ h => absurd h (by decide), fun h => absurd h (by decide)⟩
  · rw [h3, h4]; rfl
  · rw [h3, h4]; rfl
  · rw [hc, h3, h4]; rfl
  · rw [h3, h4, h5, h6]; rfl
  · rw [h3, h4]; exact getRow_setRow_same _ _ 0

/-- A later image's first half. -/
theorem invC (hb : b + 1 < 8) (hI : Inv m c (2*(b+1)) x13 x14 x15 x16 x17 x18 x19 x20 x21 x22)
    (h3 : x3 = X1 m c (2*(b+1))) (h4 : x4 = X2 m c (2*(b+1))) (h5 : x5 = X3 m c (2*(b+1))) (h6 : x6 = X4 m c (2*(b+1)))
    (h7 : x7 = X5 m c (2*(b+1))) (h8 : x8 = X6 m c (2*(b+1))) (h9 : x9 = X7 m c (2*(b+1)))
    (hc : ∀ u, clsStep 0#32 x2 x3 x4 u = clsStep 0#32 (X0 m c (2*(b+1))) x3 x4 u) :
    Inv m c (2*(b+1)+1) (setRow 0 x13 (posRow 0#32 x3 x4)) (usedStep 0#32 x3 x4 (k0_pay19 (F := F))) x14 (nposStep 0#32 x3 x4 (k0_pay20 (F := F))) x16
      (clsStep 0#32 x2 x3 x4 (k0_pay21 (F := F))) x18 (regStep 0#32 x3 x4 x5 x6 (k0_pay10 (F := F))) x20
      (locStep x3 x7 x8 x9 x14 (getRow 0 x13) (k0_pay11 (F := F))) := by
  have e : (2*(b+1)+1)/2 = b+1 := by omega
  have e' : 2*(b+1)/2 - 1 = b := by omega
  obtain ⟨k14, k16, k18, k20, k0, k1⟩ := hI.2.2 (by omega) (by omega) (by omega)
  rw [e'] at k14 k16 k18 k20 k0 k1
  refine ⟨fun _ _ => ?_, fun _ h => ?_, fun h => absurd h (by omega)⟩
  · rw [e]
    refine ⟨?_, ?_, ?_, ?_, ?_⟩
    · rw [h3, h4]; rfl
    · rw [h3, h4]; rfl
    · rw [hc, h3, h4]; rfl
    · rw [h3, h4, h5, h6]; rfl
    · rw [h3, h4]; exact getRow_setRow_same _ _ 0
  · rw [e]
    refine ⟨k14, k16, k18, k20, ?_, ?_⟩
    · rw [h3, h7, h8, h9, k14, k0]; rfl
    · rw [getRow_setRow_ne _ _ _ _ (by decide), k1]; rfl

/-- Past the last image. -/
theorem invF (hI : Inv m c 16 x13 x14 x15 x16 x17 x18 x19 x20 x21 x22)
    (h3 : x3 = X1 m c 16) (h7 : x7 = X5 m c 16) (h8 : x8 = X6 m c 16) (h9 : x9 = X7 m c 16) (y14 : Vec F S32x1 .f32) (y16 y18 y20 : Vec F S1x1 .f32) :
    Inv m c 17 x13 y14 x14 y16 x16 y18 x18 y20 x20 (locStep x3 x7 x8 x9 x14 (getRow 0 x13) (k0_pay11 (F := F))) := by
  obtain ⟨k14, k16, k18, k20, k0, k1⟩ := hI.2.2 (by omega) (by omega) (by omega)
  refine ⟨fun _ h => absurd h (by omega), fun _ h => ⟨k14, k16, k18, k20, ?_, k1⟩, fun h => absurd h (by omega)⟩
  rw [h3, h7, h8, h9, k14, k0]; rfl

/-- A second half. -/
theorem invB (hb : b < 8) (hI : Inv m c (2*b+1) x13 x14 x15 x16 x17 x18 x19 x20 x21 x22)
    (h3 : x3 = X1 m c (2*b+1)) (h4 : x4 = X2 m c (2*b+1)) (h5 : x5 = X3 m c (2*b+1)) (h6 : x6 = X4 m c (2*b+1))
    (hc : ∀ u, clsStep 1#32 x2 x3 x4 u = clsStep 1#32 (X0 m c (2*b+1)) x3 x4 u) (y15 : Vec F S32x1 .f32) (y17 y19 y21 : Vec F S1x1 .f32) :
    Inv m c (2*b+1+1) (setRow 1 x13 (posRow 1#32 x3 x4)) (usedStep 1#32 x3 x4 x14) y15 (nposStep 1#32 x3 x4 x16) y17
      (clsStep 1#32 x2 x3 x4 x18) y19 (regStep 1#32 x3 x4 x5 x6 x20) y21 z := by
  have e : (2*b+1)/2 = b := by omega
  have e' : (2*b+1+1)/2 - 1 = b := by omega
  obtain ⟨k14, k16, k18, k20, k0⟩ := hI.1 (by omega) (by omega)
  rw [e] at k14 k16 k18 k20 k0
  refine ⟨fun h => absurd h (by omega), fun h => absurd h (by omega), fun _ _ _ => ?_⟩
  rw [e']
  refine ⟨?_, ?_, ?_, ?_, ?_, ?_⟩
  · rw [h3, h4, k14]; rfl
  · rw [h3, h4, k16]; rfl
  · rw [hc, h3, h4, k18]; rfl
  · rw [h3, h4, h5, h6, k20]; rfl
  · rw [getRow_setRow_ne _ _ _ _ (by decide), k0]
  · rw [h3, h4]; exact getRow_setRow_same _ _ 1

theorem invG (hI : True) : Inv m c 18 x13 x14 x15 x16 x17 x18 x19 x20 x21 x22 :=
  ⟨fun h => absurd h (by decide), fun h => absurd h (by decide), fun _ _ h => absurd h (by decide)⟩

/-- What a second half from the second image on adds to the results. -/
theorem outs (hI : Inv m c (2*(b+1)+1) x13 x14 x15 x16 x17 x18 x19 x20 x21 x22)
    (h3 : x3 = X1 m c (2*(b+1)+1)) (h7 : x7 = X5 m c (2*(b+1)+1)) (h8 : x8 = X6 m c (2*(b+1)+1)) (h9 : x9 = X7 m c (2*(b+1)+1)) :
    x17 = npos2 m c b ∧ x19 = cls2 m c b ∧ x21 = reg2 m c b ∧ locStep x3 x7 x8 x9 x15 (getRow 1 x13) x22 = loc2 m c b := by
  have e : (2*(b+1)+1)/2 - 1 = b := by omega
  obtain ⟨k15, k17, k19, k21, k22, k1⟩ := hI.2.1 (by omega) (by omega)
  rw [e] at k15 k17 k19 k21 k22 k1
  refine ⟨k17, k19, k21, ?_⟩
  rw [h3, h7, h8, h9, k15, k22, k1]; rfl

end Steps

/-! ## The proof data -/

/-- The scratch buffers before point `n`, at contents that the invariant describes. -/
def Ph (c : Dev nD) (n : ℕ) : sProp 𝕄 :=
  iprop(∃ x13 : Vec F S2x24576 .f32, ∃ x14 : Vec F S32x1 .f32, ∃ x15 : Vec F S32x1 .f32, ∃ x16 : Vec F S1x1 .f32, ∃ x17 : Vec F S1x1 .f32,
    ∃ x18 : Vec F S1x1 .f32, ∃ x19 : Vec F S1x1 .f32, ∃ x20 : Vec F S1x1 .f32, ∃ x21 : Vec F S1x1 .f32, ∃ x22 : Vec F S1x1 .f32,
    ⌜Inv m c n x13 x14 x15 x16 x17 x18 x19 x20 x21 x22⌝ ∗ owns (c : Thread nD τ) (Memref.whole cc0_scratch0) fullShare x13 ∗ owns (c : Thread nD τ) (Memref.whole cc0_scratch1) fullShare x14 ∗ owns (c : Thread nD τ) (Memref.whole cc0_scratch2) fullShare x15 ∗ owns (c : Thread nD τ) (Memref.whole cc0_scratch3) fullShare x16 ∗ owns (c : Thread nD τ) (Memref.whole cc0_scratch4) fullShare x17 ∗ owns (c : Thread nD τ) (Memref.whole cc0_scratch5) fullShare x18 ∗ owns (c : Thread nD τ) (Memref.whole cc0_scratch6) fullShare x19 ∗ owns (c : Thread nD τ) (Memref.whole cc0_scratch7) fullShare x20 ∗ owns (c : Thread nD τ) (Memref.whole cc0_scratch8) fullShare x21 ∗ owns (c : Thread nD τ) (Memref.whole cc0_scratch9) fullShare x22 ∗ (∃ r, prngReg c r))

/-- What the body leaves in a window's buffer: an input as found, a result from the second image on at the running value. -/
def aft (c : Dev nD) : (w : Fin cfg0.W) → Fin cfg0.N → (Y X : (cfg0.win w).block.Idx → Elt F (cfg0.win w).elt) → Prop := fun
  | 0 | 1 | 2 | 3 | 4 | 5 | 6 | 7 => fun _ Y X => X = Y
  | 8 => fun t _ X => 3 ≤ t.val → X = oc m c ((t.val - 3) / 2)
  | 9 => fun t _ X => 3 ≤ t.val → X = or m c ((t.val - 3) / 2)
  | 10 => fun t _ X => 3 ≤ t.val → X = ol m c ((t.val - 3) / 2)
  | ⟨_ + 11, h⟩ => absurd h (Nat.not_lt.2 (Nat.le_add_left _ _))

/-- The proof data. -/
def rdat (c : Dev nD) : RDat τ (Elt F) Unit ℕ (UR sig nD τ) ℕ cfg0 c where
  A := fun w => V m c (Pipeline.arrRef spec0 w)
  after := aft m c
  Φ := fun n => Ph m c n.val
  q := fun w => Pipeline.shareOf spec0 w
  owed := fun _ => 0

theorem found1 (c : Dev nD) (t : Fin cfg0.N) (Y) (h : (rdat m c).Finds 1 t Y) : Y = X1 m c t.val := by
  obtain ⟨d, hd⟩ := (rdat m c).finds_in_eq_fetched 1 rfl (fun _ _ _ => rfl) (fun _ _ _ h => h) t Y h
  refine hd.trans ?_
  unfold X1
  rw [pt_val]
  exact Pipeline.fill_of_clip_none 1 _ (fun _ => rfl) _ _ _
theorem found2 (c : Dev nD) (t : Fin cfg0.N) (Y) (h : (rdat m c).Finds 2 t Y) : Y = X2 m c t.val := by
  obtain ⟨d, hd⟩ := (rdat m c).finds_in_eq_fetched 2 rfl (fun _ _ _ => rfl) (fun _ _ _ h => h) t Y h
  refine hd.trans ?_
  unfold X2
  rw [pt_val]
  exact Pipeline.fill_of_clip_none 2 _ (fun _ => rfl) _ _ _
theorem found3 (c : Dev nD) (t : Fin cfg0.N) (Y) (h : (rdat m c).Finds 3 t Y) : Y = X3 m c t.val := by
  obtain ⟨d, hd⟩ := (rdat m c).finds_in_eq_fetched 3 rfl (fun _ _ _ => rfl) (fun _ _ _ h => h) t Y h
  refine hd.trans ?_
  unfold X3
  rw [pt_val]
  exact Pipeline.fill_of_clip_none 3 _ (fun _ => rfl) _ _ _
theorem found4 (c : Dev nD) (t : Fin cfg0.N) (Y) (h : (rdat m c).Finds 4 t Y) : Y = X4 m c t.val := by
  obtain ⟨d, hd⟩ := (rdat m c).finds_in_eq_fetched 4 rfl (fun _ _ _ => rfl) (fun _ _ _ h => h) t Y h
  refine hd.trans ?_
  unfold X4
  rw [pt_val]
  exact Pipeline.fill_of_clip_none 4 _ (fun _ => rfl) _ _ _
theorem found5 (c : Dev nD) (t : Fin cfg0.N) (Y) (h : (rdat m c).Finds 5 t Y) : Y = X5 m c t.val := by
  obtain ⟨d, hd⟩ := (rdat m c).finds_in_eq_fetched 5 rfl (fun _ _ _ => rfl) (fun _ _ _ h => h) t Y h
  refine hd.trans ?_
  unfold X5
  rw [pt_val]
  exact Pipeline.fill_of_clip_none 5 _ (fun _ => rfl) _ _ _
theorem found6 (c : Dev nD) (t : Fin cfg0.N) (Y) (h : (rdat m c).Finds 6 t Y) : Y = X6 m c t.val := by
  obtain ⟨d, hd⟩ := (rdat m c).finds_in_eq_fetched 6 rfl (fun _ _ _ => rfl) (fun _ _ _ h => h) t Y h
  refine hd.trans ?_
  unfold X6
  rw [pt_val]
  exact Pipeline.fill_of_clip_none 6 _ (fun _ => rfl) _ _ _
theorem found7 (c : Dev nD) (t : Fin cfg0.N) (Y) (h : (rdat m c).Finds 7 t Y) : Y = X7 m c t.val := by
  obtain ⟨d, hd⟩ := (rdat m c).finds_in_eq_fetched 7 rfl (fun _ _ _ => rfl) (fun _ _ _ h => h) t Y h
  refine hd.trans ?_
  unfold X7
  rw [pt_val]
  exact Pipeline.fill_of_clip_none 7 _ (fun _ => rfl) _ _ _
theorem found0 (c : Dev nD) (t : Fin cfg0.N) (ht : t.val < 16) (Y) (h : (rdat m c).Finds 0 t Y) (x3 x4 u) :
    clsStep (BitVec.ofNat 32 (t.val % 2)) Y x3 x4 u = clsStep (BitVec.ofNat 32 (t.val % 2)) (X0 m c t.val) x3 x4 u := by
  obtain ⟨d, hd⟩ := ((rdat m c).finds_of_fetch (w := 0) (fetch_0 t ht) Y).mp h
  have e : X0 m c t.val = fillAt m c 0 t (junk 0) := by unfold X0; rw [pt_val]
  rw [e]
  exact (congrArg (fun z => clsStep (BitVec.ofNat 32 (t.val % 2)) z x3 x4 u) hd).trans (clsStep_fill m c t ht d _ x3 x4 u)
theorem found8 (c : Dev nD) (t : Fin cfg0.N) (ht : 4 ≤ t.val) (Y) (h : (rdat m c).Finds 8 t Y) : Y = oc m c ((t.val - 4) / 2) := by
  rcases ((rdat m c).finds_of_pos (w := 8) (Window.fetch_out _ rfl t) (by omega) Y).mp h with hf | ⟨Y', _, hR⟩
  · have := (flush0_8 _).mp hf
    have h18 : t.val < 18 := t.isLt
    simp only at this
    omega
  · have h2 := hR (by show 3 ≤ t.val - 1; omega)
    exact h2.trans (congrArg (oc m c) (by show (t.val - 1 - 3) / 2 = _; omega))
theorem found9 (c : Dev nD) (t : Fin cfg0.N) (ht : 4 ≤ t.val) (Y) (h : (rdat m c).Finds 9 t Y) : Y = or m c ((t.val - 4) / 2) := by
  rcases ((rdat m c).finds_of_pos (w := 9) (Window.fetch_out _ rfl t) (by omega) Y).mp h with hf | ⟨Y', _, hR⟩
  · have := (flush0_9 _).mp hf
    have h18 : t.val < 18 := t.isLt
    simp only at this
    omega
  · have h2 := hR (by show 3 ≤ t.val - 1; omega)
    exact h2.trans (congrArg (or m c) (by show (t.val - 1 - 3) / 2 = _; omega))
theorem found10 (c : Dev nD) (t : Fin cfg0.N) (ht : 4 ≤ t.val) (Y) (h : (rdat m c).Finds 10 t Y) : Y = ol m c ((t.val - 4) / 2) := by
  rcases ((rdat m c).finds_of_pos (w := 10) (Window.fetch_out _ rfl t) (by omega) Y).mp h with hf | ⟨Y', _, hR⟩
  · have := (flush0_10 _).mp hf
    have h18 : t.val < 18 := t.isLt
    simp only at this
    omega
  · have h2 := hR (by show 3 ≤ t.val - 1; omega)
    exact h2.trans (congrArg (ol m c) (by show (t.val - 1 - 3) / 2 = _; omega))

end Cert.KernelIdeal.Hand

end
-- ==== Proof.IOb.lean ====
module

public import proofs.«01_k».proof.Proof.IData

@[expose] public section

set_option maxRecDepth 16384
set_option synthInstance.maxSize 4096
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

/-- The first point. -/
theorem obA (𝒱₀ : Variants) (c : Dev nD) (t : Fin cfg0.N) (ht : t.val = 0) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 0 := hq.trans (by omega)
  have hF : (grid0.coords t) 1 = (0 : Fin 2) := Fin.ext hq2
  have e0 := found0 m c t (by omega) (Y 0) (hY 0)
  rw [show t.val % 2 = 0 by omega] at e0
  rw [ht] at e1 e2 e3 e4 e5 e6 e7 e0
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  iapply (bodyA 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((cond1_iff t).mpr (by omega)) (fun h => absurd ((cond2_iff t).mp h) (by omega)) ((cond5_iff t).mpr (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [ht, hq2]
        exact invA e1 e2 e3 e4 (e0 _ _)
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      exact fun h => absurd h (by omega)
    isplitl [W9]
    · iexists _; isplitr; swap; (· iexact W9)
      ipureintro
      exact fun h => absurd h (by omega)
    · iexists _; isplitr; swap; (· iexact W10)
      ipureintro
      exact fun h => absurd h (by omega)

/-- The second point. -/
theorem obB (𝒱₀ : Variants) (c : Dev nD) (t : Fin cfg0.N) (ht : t.val = 2*0+1) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 1 := hq.trans (by omega)
  have hF : (grid0.coords t) 1 = (1 : Fin 2) := Fin.ext hq2
  have e0 := found0 m c t (by omega) (Y 0) (hY 0)
  rw [show t.val % 2 = 1 by omega] at e0
  rw [ht] at e1 e2 e3 e4 e5 e6 e7 e0
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  iapply (bodyB 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((cond1_iff t).mp h) (by omega)) (fun h => absurd ((cond2_iff t).mp h) (by omega)) ((cond5_iff t).mpr (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [ht] at hI
        rw [ht, hq2]
        exact invB (b := 0) (by omega) hI e1 e2 e3 e4 (e0 _ _) _ _ _ _
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      exact fun h => absurd h (by omega)
    isplitl [W9]
    · iexists _; isplitr; swap; (· iexact W9)
      ipureintro
      exact fun h => absurd h (by omega)
    · iexists _; isplitr; swap; (· iexact W10)
      ipureintro
      exact fun h => absurd h (by omega)

/-- A later image's first half. -/
theorem obC (𝒱₀ : Variants) (c : Dev nD) (t : Fin cfg0.N) (b : ℕ) (hb : b + 1 < 8) (ht : t.val = 2*(b+1)) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 0 := hq.trans (by omega)
  have hF : (grid0.coords t) 1 = (0 : Fin 2) := Fin.ext hq2
  have e0 := found0 m c t (by omega) (Y 0) (hY 0)
  rw [show t.val % 2 = 0 by omega] at e0
  rw [ht] at e1 e2 e3 e4 e5 e6 e7 e0
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  iapply (bodyC 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((cond1_iff t).mpr (by omega)) ((cond2_iff t).mpr (by omega)) (fun h => absurd ((cond3_iff t).mp h) (by omega)) ((cond5_iff t).mpr (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [ht] at hI
        rw [ht, hF]
        exact invC hb hI e1 e2 e3 e4 e5 e6 e7 (e0 _ _)
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      exact fun h => (found8 m c t (by omega) (Y 8) (hY 8)).trans (congrArg (oc m c) (by omega))
    isplitl [W9]
    · iexists _; isplitr; swap; (· iexact W9)
      ipureintro
      exact fun h => (found9 m c t (by omega) (Y 9) (hY 9)).trans (congrArg (or m c) (by omega))
    · iexists _; isplitr; swap; (· iexact W10)
      ipureintro
      exact fun h => (found10 m c t (by omega) (Y 10) (hY 10)).trans (congrArg (ol m c) (by omega))

/-- The point past the last image. -/
theorem obF (𝒱₀ : Variants) (c : Dev nD) (t : Fin cfg0.N) (ht : t.val = 16) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 0 := hq.trans (by omega)
  have hF : (grid0.coords t) 1 = (0 : Fin 2) := Fin.ext hq2
  rw [ht] at e1 e2 e3 e4 e5 e6 e7
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  iapply (bodyF 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((cond1_iff t).mpr (by omega)) ((cond2_iff t).mpr (by omega)) (fun h => absurd ((cond3_iff t).mp h) (by omega)) (fun h => absurd ((cond5_iff t).mp h) (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [ht] at hI
        rw [ht, hF]
        exact invF hI e1 e5 e6 e7 _ _ _ _
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      exact fun h => (found8 m c t (by omega) (Y 8) (hY 8)).trans (congrArg (oc m c) (by omega))
    isplitl [W9]
    · iexists _; isplitr; swap; (· iexact W9)
      ipureintro
      exact fun h => (found9 m c t (by omega) (Y 9) (hY 9)).trans (congrArg (or m c) (by omega))
    · iexists _; isplitr; swap; (· iexact W10)
      ipureintro
      exact fun h => (found10 m c t (by omega) (Y 10) (hY 10)).trans (congrArg (ol m c) (by omega))

/-- The second image's second half. -/
theorem obD (𝒱₀ : Variants) (c : Dev nD) (t : Fin cfg0.N) (ht : t.val = 2*(0+1)+1) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 1 := hq.trans (by omega)
  have hF : (grid0.coords t) 1 = (1 : Fin 2) := Fin.ext hq2
  have e0 := found0 m c t (by omega) (Y 0) (hY 0)
  rw [show t.val % 2 = 1 by omega] at e0
  rw [ht] at e1 e2 e3 e4 e5 e6 e7 e0
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  rw [ht] at hI
  iapply (bodyD 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((cond1_iff t).mp h) (by omega)) ((cond2_iff t).mpr (by omega)) ((cond3_iff t).mpr (by omega)) ((cond4_iff t (by omega)).mpr (by omega)) ((cond5_iff t).mpr (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [ht, hq2]
        exact invB (b := 0+1) (by omega) hI e1 e2 e3 e4 (e0 _ _) _ _ _ _
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      intro _
      obtain ⟨k17, k19, k21, k22⟩ := outs (b := 0) hI e1 e5 e6 e7
      rw [show (t.val - 3) / 2 = 0 by omega]
      exact congr (congr (congrArg k0_pay27 k17) k19) rfl
    isplitl [W9]
    · iexists _; isplitr; swap; (· iexact W9)
      ipureintro
      intro _
      obtain ⟨k17, k19, k21, k22⟩ := outs (b := 0) hI e1 e5 e6 e7
      rw [show (t.val - 3) / 2 = 0 by omega]
      exact congr (congr (congrArg k0_pay28 k17) k21) rfl
    · iexists _; isplitr; swap; (· iexact W10)
      ipureintro
      intro _
      obtain ⟨k17, k19, k21, k22⟩ := outs (b := 0) hI e1 e5 e6 e7
      rw [show (t.val - 3) / 2 = 0 by omega]
      exact congr (congrArg k0_pay13 (congr (congrArg k0_pay23 k17) (by rw [hF]; exact k22))) rfl

/-- A later image's second half. -/
theorem obE (𝒱₀ : Variants) (c : Dev nD) (t : Fin cfg0.N) (b : ℕ) (hb : b + 2 < 8) (ht : t.val = 2*(b+1+1)+1) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 1 := hq.trans (by omega)
  have hF : (grid0.coords t) 1 = (1 : Fin 2) := Fin.ext hq2
  have e0 := found0 m c t (by omega) (Y 0) (hY 0)
  rw [show t.val % 2 = 1 by omega] at e0
  rw [ht] at e1 e2 e3 e4 e5 e6 e7 e0
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  rw [ht] at hI
  iapply (bodyE 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((cond1_iff t).mp h) (by omega)) ((cond2_iff t).mpr (by omega)) ((cond3_iff t).mpr (by omega)) (fun h => absurd ((cond4_iff t (by omega)).mp h) (by omega)) ((cond5_iff t).mpr (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [ht, hq2]
        exact invB (b := b+1+1) (by omega) hI e1 e2 e3 e4 (e0 _ _) _ _ _ _
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      intro _
      obtain ⟨k17, k19, k21, k22⟩ := outs (b := b+1) hI e1 e5 e6 e7
      rw [show (t.val - 3) / 2 = b+1 by omega]
      exact congr (congr (congrArg k0_pay27 k17) k19) ((found8 m c t (by omega) (Y 8) (hY 8)).trans (congrArg (oc m c) (by omega)))
    isplitl [W9]
    · iexists _; isplitr; swap; (· iexact W9)
      ipureintro
      intro _
      obtain ⟨k17, k19, k21, k22⟩ := outs (b := b+1) hI e1 e5 e6 e7
      rw [show (t.val - 3) / 2 = b+1 by omega]
      exact congr (congr (congrArg k0_pay28 k17) k21) ((found9 m c t (by omega) (Y 9) (hY 9)).trans (congrArg (or m c) (by omega)))
    · iexists _; isplitr; swap; (· iexact W10)
      ipureintro
      intro _
      obtain ⟨k17, k19, k21, k22⟩ := outs (b := b+1) hI e1 e5 e6 e7
      rw [show (t.val - 3) / 2 = b+1 by omega]
      exact congr (congrArg k0_pay13 (congr (congrArg k0_pay23 k17) (by rw [hF]; exact k22))) ((found10 m c t (by omega) (Y 10) (hY 10)).trans (congrArg (ol m c) (by omega)))

/-- The last point. -/
theorem obG (𝒱₀ : Variants) (c : Dev nD) (t : Fin cfg0.N) (b : ℕ) (hb : b = 6) (ht : t.val = 2*(b+1+1)+1) (Y : (w : Fin cfg0.W) → (cfg0.win w).block.Idx → Elt F (cfg0.win w).elt)
    (hY : ∀ w, (rdat m c).Finds w t (Y w)) :
    iprop(Ph m c t.val ∗ (rdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10)))
    ⊢ wp frame (wpE defs₀ 𝒱₀ (c : Thread nD τ) none) Set.univ (bodyAt0 t) fun _ =>
      iprop(Ph m c (t.val + 1) ∗ (rdat m c).owesAt () t.succ ∗ ((∃ X, ⌜aft m c 0 t (Y 0) X⌝ ∗ owns (c : Thread nD τ) (st0_0 t) fullShare X) ∗ (∃ X, ⌜aft m c 1 t (Y 1) X⌝ ∗ owns (c : Thread nD τ) (st0_1 t) fullShare X) ∗ (∃ X, ⌜aft m c 2 t (Y 2) X⌝ ∗ owns (c : Thread nD τ) (st0_2 t) fullShare X) ∗ (∃ X, ⌜aft m c 3 t (Y 3) X⌝ ∗ owns (c : Thread nD τ) (st0_3 t) fullShare X) ∗ (∃ X, ⌜aft m c 4 t (Y 4) X⌝ ∗ owns (c : Thread nD τ) (st0_4 t) fullShare X) ∗ (∃ X, ⌜aft m c 5 t (Y 5) X⌝ ∗ owns (c : Thread nD τ) (st0_5 t) fullShare X) ∗ (∃ X, ⌜aft m c 6 t (Y 6) X⌝ ∗ owns (c : Thread nD τ) (st0_6 t) fullShare X) ∗ (∃ X, ⌜aft m c 7 t (Y 7) X⌝ ∗ owns (c : Thread nD τ) (st0_7 t) fullShare X) ∗ (∃ X, ⌜aft m c 8 t (Y 8) X⌝ ∗ owns (c : Thread nD τ) (st0_8 t) fullShare X) ∗ (∃ X, ⌜aft m c 9 t (Y 9) X⌝ ∗ owns (c : Thread nD τ) (st0_9 t) fullShare X) ∗ (∃ X, ⌜aft m c 10 t (Y 10) X⌝ ∗ owns (c : Thread nD τ) (st0_10 t) fullShare X))) := by
  have hq := coord1 t
  have e1 : Y 1 = X1 m c t.val := found1 m c t (Y 1) (hY 1)
  have e2 : Y 2 = X2 m c t.val := found2 m c t (Y 2) (hY 2)
  have e3 : Y 3 = X3 m c t.val := found3 m c t (Y 3) (hY 3)
  have e4 : Y 4 = X4 m c t.val := found4 m c t (Y 4) (hY 4)
  have e5 : Y 5 = X5 m c t.val := found5 m c t (Y 5) (hY 5)
  have e6 : Y 6 = X6 m c t.val := found6 m c t (Y 6) (hY 6)
  have e7 : Y 7 = X7 m c t.val := found7 m c t (Y 7) (hY 7)
  have hq2 : ((grid0.coords t) 1).val = 1 := hq.trans (by omega)
  have hF : (grid0.coords t) 1 = (1 : Fin 2) := Fin.ext hq2
  rw [ht] at e1 e2 e3 e4 e5 e6 e7
  unfold Ph
  iintro ⟨⟨%x13, %x14, %x15, %x16, %x17, %x18, %x19, %x20, %x21, %x22, %hI, S0, S1, S2, S3, S4, S5, S6, S7, S8, S9, Hp⟩, Ho, W0, W1, W2, W3, W4, W5, W6, W7, W8, W9, W10⟩
  rw [ht] at hI
  iapply (bodyG 𝒱₀ c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((cond1_iff t).mp h) (by omega)) ((cond2_iff t).mpr (by omega)) ((cond3_iff t).mpr (by omega)) (fun h => absurd ((cond4_iff t (by omega)).mp h) (by omega)) (fun h => absurd ((cond5_iff t).mp h) (by omega)) Set.univ _)
  isplitl [W0 W1 W2 W3 W4 W5 W6 W7 W8 W9 W10 S0 S1 S2 S3 S4 S5 S6 S7 S8 S9]
  · isplitl [W0]; (· iexact W0)
    isplitl [W1]; (· iexact W1)
    isplitl [W2]; (· iexact W2)
    isplitl [W3]; (· iexact W3)
    isplitl [W4]; (· iexact W4)
    isplitl [W5]; (· iexact W5)
    isplitl [W6]; (· iexact W6)
    isplitl [W7]; (· iexact W7)
    isplitl [W8]; (· iexact W8)
    isplitl [W9]; (· iexact W9)
    isplitl [W10]; (· iexact W10)
    isplitl [S0]; (· iexact S0)
    isplitl [S1]; (· iexact S1)
    isplitl [S2]; (· iexact S2)
    isplitl [S3]; (· iexact S3)
    isplitl [S4]; (· iexact S4)
    isplitl [S5]; (· iexact S5)
    isplitl [S6]; (· iexact S6)
    isplitl [S7]; (· iexact S7)
    isplitl [S8]; (· iexact S8)
    iexact S9
  · iintro ⟨W0, W1, W2, W3, W4, W5, W6, W7, W8, W9, W10, S0, S1, S2, S3, S4, S5, S6, S7, S8, S9⟩
    isplitl [S0 S1 S2 S3 S4 S5 S6 S7 S8 S9 Hp]
    · iexists _; iexists _; iexists _; iexists _; iexists _; iexists _; iexists _; iexists _; iexists _; iexists _
      isplitr
      swap
      · isplitl [S0]; (· iexact S0)
        isplitl [S1]; (· iexact S1)
        isplitl [S2]; (· iexact S2)
        isplitl [S3]; (· iexact S3)
        isplitl [S4]; (· iexact S4)
        isplitl [S5]; (· iexact S5)
        isplitl [S6]; (· iexact S6)
        isplitl [S7]; (· iexact S7)
        isplitl [S8]; (· iexact S8)
        isplitl [S9]; (· iexact S9)
        iexact Hp
      · ipureintro
        rw [show t.val + 1 = 18 by omega]; exact invG trivial
    isplitl [Ho]; (· iexact Ho)
    isplitl [W0]
    · iexists _; isplitr; swap; (· iexact W0)
      ipureintro
      exact rfl
    isplitl [W1]
    · iexists _; isplitr; swap; (· iexact W1)
      ipureintro
      exact rfl
    isplitl [W2]
    · iexists _; isplitr; swap; (· iexact W2)
      ipureintro
      exact rfl
    isplitl [W3]
    · iexists _; isplitr; swap; (· iexact W3)
      ipureintro
      exact rfl
    isplitl [W4]
    · iexists _; isplitr; swap; (· iexact W4)
      ipureintro
      exact rfl
    isplitl [W5]
    · iexists _; isplitr; swap; (· iexact W5)
      ipureintro
      exact rfl
    isplitl [W6]
    · iexists _; isplitr; swap; (· iexact W6)
      ipureintro
      exact rfl
    isplitl [W7]
    · iexists _; isplitr; swap; (· iexact W7)
      ipureintro
      exact rfl
    isplitl [W8]
    · iexists _; isplitr; swap; (· iexact W8)
      ipureintro
      intro _
      obtain ⟨k17, k19, k21, k22⟩ := outs (b := b+1) hI e1 e5 e6 e7
      rw [show (t.val - 3) / 2 = b+1 by omega]
      exact congr (congr (congrArg k0_pay27 k17) k19) ((found8 m c t (by omega) (Y 8) (hY 8)).trans (congrArg (oc m c) (by omega)))
    isplitl [W9]
    · iexists _; isplitr; swap; (· iexact W9)
      ipureintro
      intro _
      obtain ⟨k17, k19, k21, k22⟩ := outs (b := b+1) hI e1 e5 e6 e7
      rw [show (t.val - 3) / 2 = b+1 by omega]
      exact congr (congr (congrArg k0_pay28 k17) k21) ((found9 m c t (by omega) (Y 9) (hY 9)).trans (congrArg (or m c) (by omega)))
    · iexists _; isplitr; swap; (· iexact W10)
      ipureintro
      intro _
      obtain ⟨k17, k19, k21, k22⟩ := outs (b := b+1) hI e1 e5 e6 e7
      rw [show (t.val - 3) / 2 = b+1 by omega]
      exact congr (congrArg k0_pay13 (congr (congrArg k0_pay23 k17) (by rw [hF]; exact k22))) ((found10 m c t (by omega) (Y 10) (hY 10)).trans (congrArg (ol m c) (by omega)))

/-- The body obligation, at every point. -/
theorem obligation (𝒱₀ : Variants) (c : Dev nD) : (rdat m c).BodyObligation defs₀ 𝒱₀ () Set.univ := by
  intro t Y hY
  have h18 : t.val < 18 := t.isLt
  rewrite [show defs₀ .tc cfg0.body (cfg0.bodyArgs t (cfg0.slots t)) = bodyAt0 t from by unfold defs₀; rw [Defs.onTc_tc]]
  have hcase : t.val = 0 ∨ t.val = 2*0+1 ∨ (∃ b, b + 1 < 8 ∧ t.val = 2*(b+1)) ∨ t.val = 16 ∨ t.val = 2*(0+1)+1
      ∨ (∃ b, b + 2 < 8 ∧ t.val = 2*(b+1+1)+1) ∨ t.val = 2*(6+1+1)+1 := by
    rcases Nat.even_or_odd' t.val with ⟨k, hk | hk⟩
    · rcases Nat.lt_or_ge k 1 with h | h
      · omega
      · rcases Nat.lt_or_ge k 8 with h' | h'
        · exact Or.inr (Or.inr (Or.inl ⟨k - 1, by omega, by omega⟩))
        · omega
    · rcases Nat.lt_or_ge k 2 with h | h
      · omega
      · rcases Nat.lt_or_ge k 8 with h' | h'
        · exact Or.inr (Or.inr (Or.inr (Or.inr (Or.inr (Or.inl ⟨k - 2, by omega, by omega⟩)))))
        · omega
  rw [bigSep_W0, bigSep_W0]
  rcases hcase with h | h | ⟨b, hb, h⟩ | h | h | ⟨b, hb, h⟩ | h
  · exact obA m 𝒱₀ c t h Y hY
  · exact obB m 𝒱₀ c t h Y hY
  · exact obC m 𝒱₀ c t b hb h Y hY
  · exact obF m 𝒱₀ c t h Y hY
  · exact obD m 𝒱₀ c t h Y hY
  · exact obE m 𝒱₀ c t b hb h Y hY
  · exact obG m 𝒱₀ c t 6 rfl h Y hY

end Cert.KernelIdeal.Hand

end
-- ==== Proof.IMain.lean ====
module

public import proofs.«01_k».proof.Proof.IOb

@[expose] public section

set_option maxRecDepth 16384
set_option synthInstance.maxSize 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant asks nothing. -/
theorem inv0 (c : Dev nD) (x13 : Vec F S2x24576 .f32) (x14 x15 : Vec F S32x1 .f32) (x16 x17 x18 x19 x20 x21 x22 : Vec F S1x1 .f32) :
    Inv m c 0 x13 x14 x15 x16 x17 x18 x19 x20 x21 x22 :=
  ⟨fun h => absurd h (by decide), fun h => absurd h (by decide), fun _ h => absurd h (by decide)⟩

/-- The scratch buffers at launch satisfy it. -/
theorem hin (c : Dev nD) : Pipeline.ΦA (U := UR sig nD τ) spec0 c ⊢ (rdat m c).Φ 0 := by
  show Pipeline.ΦA spec0 c ⊢ Ph m c 0
  unfold Pipeline.ΦA Ph
  rw [scopedRest0_eq]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hp⟩
  iexists f0; iexists f1; iexists f2; iexists f3; iexists f4; iexists f5; iexists f6; iexists f7; iexists f8; iexists f9
  isplitr
  · ipureintro; exact inv0 m c _ _ _ _ _ _ _ _ _ _
  isplitl [S0]; (· iexact S0)
  isplitl [S1]; (· iexact S1)
  isplitl [S2]; (· iexact S2)
  isplitl [S3]; (· iexact S3)
  isplitl [S4]; (· iexact S4)
  isplitl [S5]; (· iexact S5)
  isplitl [S6]; (· iexact S6)
  isplitl [S7]; (· iexact S7)
  isplitl [S8]; (· iexact S8)
  isplitl [S9]; (· iexact S9)
  iexact Hp

/-- After the last point they are given back. -/
theorem hout (c : Dev nD) : (rdat m c).Φ (Fin.last cfg0.N) ⊢ Pipeline.ΦA (U := UR sig nD τ) spec0 c := by
  show Ph m c 18 ⊢ Pipeline.ΦA spec0 c
  unfold Pipeline.ΦA Ph
  rw [scopedRest0_eq]
  simp only [owns_whole]
  iintro ⟨%x13, %x14, %x15, %x16, %x17, %x18, %x19, %x20, %x21, %x22, %hI, S0, S1, S2, S3, S4, S5, S6, S7, S8, S9, Hp⟩
  isplitl [S0 S1 S2 S3 S4 S5 S6 S7 S8 S9]
  · isplitl [S0]; (· iexists _; iexact S0)
    isplitl [S1]; (· iexists _; iexact S1)
    isplitl [S2]; (· iexists _; iexact S2)
    isplitl [S3]; (· iexists _; iexact S3)
    isplitl [S4]; (· iexists _; iexact S4)
    isplitl [S5]; (· iexists _; iexact S5)
    isplitl [S6]; (· iexists _; iexact S6)
    isplitl [S7]; (· iexists _; iexact S7)
    isplitl [S8]; (· iexists _; iexact S8)
    iexists _; iexact S9
  iexact Hp

/-- The run: every execution ends, with the windows' arrays as the proof data say, every other array as the pipeline found it, and every semaphore
    counter at zero. -/
theorem run_main : θ_run defs (onTc (τ := τ) (main (F := F))) (s₀ m ρ)
    (fun r => RDat.FramePost cfg0 (rdat m) (V m) r ∧ r.2.sem = fun _ => 0) :=
  RDat.θ_run_frame_track_shared cfgs 0 launch₀0 defs₀ Variants.none (rdat m) m ρ main (obligation m _)
    (fun _ _ _ => rfl) (fun _ _ => rfl) (V m) (hmain m _) (fun _ _ => rfl) (hin m) (hout m) _ (fun _ h => h)

theorem one_ix (y z : S1x1.Idx) : y = z := funext fun a => by
  match a with
  | ⟨0, _⟩ => exact Subsingleton.elim (α := Fin 1) _ _
  | ⟨1, _⟩ => exact Subsingleton.elim (α := Fin 1) _ _

/-- What result 0's array holds at the end. -/
theorem final8 (c : Dev nD) (G) (h : (rdat m c).ArrAt 8 cfg0.N G) : G = oc m c 7 := by
  have h18 : (17 : ℕ) < cfg0.N := by decide
  have h' : (rdat m c).ArrAt 8 (17+1) G := h
  unfold RDat.ArrAt at h'
  rw [dif_pos h18, if_pos ((flush0_8 ⟨17, h18⟩).mpr rfl)] at h'
  obtain ⟨G₀, X, _, ⟨Y, _, hX⟩, rfl⟩ := h'
  have hX' : X = oc m c 7 := (hX (by show 3 ≤ 17; omega)).trans (congrArg (oc m c) (by show (17 - 3) / 2 = 7; rfl))
  subst hX'
  have hr := View.read_write_univ (v := ((cfg0.win 8).blk ⟨17, h18⟩).view) G₀ ((cfg0.win 8).cut (cfg0.grid.coords ⟨17, h18⟩) (oc m c 7))
  funext y
  have hy := congrFun hr (fun a => (y a : Fin _))
  refine Eq.trans ?_ hy
  rw [View.read_apply]
  refine (congrArg (View.write (Elt F) ((cfg0.win 8).blk ⟨17, h18⟩).view G₀ ((cfg0.win 8).cut (cfg0.grid.coords ⟨17, h18⟩) (oc m c 7)) Finset.univ)
    (one_ix y (((cfg0.win 8).blk ⟨17, h18⟩).view.emb fun a => (y a : Fin _)))).trans ?_
  rfl

/-- What result 1's array holds at the end. -/
theorem final9 (c : Dev nD) (G) (h : (rdat m c).ArrAt 9 cfg0.N G) : G = or m c 7 := by
  have h18 : (17 : ℕ) < cfg0.N := by decide
  have h' : (rdat m c).ArrAt 9 (17+1) G := h
  unfold RDat.ArrAt at h'
  rw [dif_pos h18, if_pos ((flush0_9 ⟨17, h18⟩).mpr rfl)] at h'
  obtain ⟨G₀, X, _, ⟨Y, _, hX⟩, rfl⟩ := h'
  have hX' : X = or m c 7 := (hX (by show 3 ≤ 17; omega)).trans (congrArg (or m c) (by show (17 - 3) / 2 = 7; rfl))
  subst hX'
  have hr := View.read_write_univ (v := ((cfg0.win 9).blk ⟨17, h18⟩).view) G₀ ((cfg0.win 9).cut (cfg0.grid.coords ⟨17, h18⟩) (or m c 7))
  funext y
  have hy := congrFun hr (fun a => (y a : Fin _))
  refine Eq.trans ?_ hy
  rw [View.read_apply]
  refine (congrArg (View.write (Elt F) ((cfg0.win 9).blk ⟨17, h18⟩).view G₀ ((cfg0.win 9).cut (cfg0.grid.coords ⟨17, h18⟩) (or m c 7)) Finset.univ)
    (one_ix y (((cfg0.win 9).blk ⟨17, h18⟩).view.emb fun a => (y a : Fin _)))).trans ?_
  rfl

/-- What result 2's array holds at the end. -/
theorem final10 (c : Dev nD) (G) (h : (rdat m c).ArrAt 10 cfg0.N G) : G = ol m c 7 := by
  have h18 : (17 : ℕ) < cfg0.N := by decide
  have h' : (rdat m c).ArrAt 10 (17+1) G := h
  unfold RDat.ArrAt at h'
  rw [dif_pos h18, if_pos ((flush0_10 ⟨17, h18⟩).mpr rfl)] at h'
  obtain ⟨G₀, X, _, ⟨Y, _, hX⟩, rfl⟩ := h'
  have hX' : X = ol m c 7 := (hX (by show 3 ≤ 17; omega)).trans (congrArg (ol m c) (by show (17 - 3) / 2 = 7; rfl))
  subst hX'
  have hr := View.read_write_univ (v := ((cfg0.win 10).blk ⟨17, h18⟩).view) G₀ ((cfg0.win 10).cut (cfg0.grid.coords ⟨17, h18⟩) (ol m c 7))
  funext y
  have hy := congrFun hr (fun a => (y a : Fin _))
  refine Eq.trans ?_ hy
  rw [View.read_apply]
  refine (congrArg (View.write (Elt F) ((cfg0.win 10).blk ⟨17, h18⟩).view G₀ ((cfg0.win 10).cut (cfg0.grid.coords ⟨17, h18⟩) (ol m c 7)) Finset.univ)
    (one_ix y (((cfg0.win 10).blk ⟨17, h18⟩).view.emb fun a => (y a : Fin _)))).trans ?_
  rfl

/-- The whole run: every execution ends with the arguments as launched, the three results at the running values after the last image, and every
    semaphore counter at zero. -/
theorem run_all : θ_run defs (onTc (τ := τ) (main (F := F))) ⟨m, fun _ => 0, ρ⟩ (fun r => (∀ c : Dev nD, (r.2.mem ((c.tc : Thread nD τ).loc main_v8_0) = oc m c 7
      ∧ r.2.mem ((c.tc : Thread nD τ).loc main_v8_1) = or m c 7 ∧ r.2.mem ((c.tc : Thread nD τ).loc main_v8_2) = ol m c 7)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun r h => ⟨fun c => ⟨⟨final8 m c _ ((h.1 c).1 8), final9 m c _ ((h.1 c).1 9), final10 m c _ ((h.1 c).1 10)⟩,
    (RDat.FramePost.arr_in h.1 c 0 rfl).trans (V_main_arg0 m c),
    ((h.1 c).2 main_arg1 (Pipeline.mem_restRefs_of main_arg1 (by decide) (by decide)) |>.trans (V_main_arg1 m c)),
    ((h.1 c).2 main_arg2 (Pipeline.mem_restRefs_of main_arg2 (by decide) (by decide)) |>.trans (V_main_arg2 m c)),
    ((h.1 c).2 main_arg3 (Pipeline.mem_restRefs_of main_arg3 (by decide) (by decide)) |>.trans (V_main_arg3 m c)),
    (RDat.FramePost.arr_in h.1 c 5 rfl).trans (V_main_arg4 m c),
    ((h.1 c).2 main_arg5 (Pipeline.mem_restRefs_of main_arg5 (by decide) (by decide)) |>.trans (V_main_arg5 m c))⟩, h.2⟩) (run_main m ρ)

end Cert.KernelIdeal.Hand

end
-- ==== Proof.Spec.lean ====
/- The detection loss over the extended reals, one anchor, box and class at a time: what the kernel
   and the reference are both shown to compute. -/
module

public import Idealize.ShloMosaic.PureOps.Ideal
public import Idealize.ShloMosaic.Lib.Pointwise
public import Idealize.ShloMosaic.Lib.IdealHost

@[expose] public section

noncomputable section

namespace Cert.Spec

open Idealize.ShloMosaic

/-- The number a float word names. -/
abbrev lit (w : BitVec 32) : EReal := Ideal.ofBits .f32 w

/-! ## One-bit words and their numbers -/

open Classical in
/-- One where a statement holds, zero where it does not, as a word of one bit. -/
def bit (p : Prop) : BitVec 1 := BitVec.ofBool (decide p)

open Classical in
/-- One where a statement holds, zero where it does not, as a number. -/
def ind (p : Prop) : EReal := if p then 1 else 0

theorem bit_of (p : Prop) [Decidable p] : BitVec.ofBool (decide p) = bit p := by
  unfold bit; congr
theorem bit_true {p : Prop} (h : p) : bit p = 1#1 := by simp [bit, h]
theorem bit_false {p : Prop} (h : ¬ p) : bit p = 0#1 := by simp [bit, h]
theorem bit_congr {p q : Prop} (h : p ↔ q) : bit p = bit q := by rw [propext h]
theorem ind_true {p : Prop} (h : p) : ind p = 1 := if_pos h
theorem ind_false {p : Prop} (h : ¬ p) : ind p = 0 := if_neg h

theorem andi_bit (p q : Prop) : IntOp.andi (bit p) (bit q) = bit (p ∧ q) := by
  by_cases hp : p <;> by_cases hq : q <;> simp [hp, hq, bit] <;> rfl
theorem ori_bit (p q : Prop) : IntOp.ori (bit p) (bit q) = bit (p ∨ q) := by
  by_cases hp : p <;> by_cases hq : q <;> simp [hp, hq, bit] <;> rfl
theorem select_true {α : Type} {p : Prop} (h : p) (a b : α) : Scalar.select (bit p) a b = a := by
  rw [bit_true h]; rfl
theorem select_false {α : Type} {p : Prop} (h : ¬ p) (a b : α) : Scalar.select (bit p) a b = b := by
  rw [bit_false h]; rfl
theorem cmpi_eq (x y : BitVec 32) : IntOp.cmpi .eq x y = bit (x = y) := by
  by_cases h : x = y
  · subst h; rw [bit_true rfl]; simp [IntOp.cmpi]
  · rw [bit_false h]
    show BitVec.ofBool (x == y) = 0#1
    rw [beq_false_of_ne h]; rfl
theorem cmpi_slt (x y : BitVec 32) : IntOp.cmpi .slt x y = bit (x.toInt < y.toInt) := by
  unfold bit IntOp.cmpi
  simp only [BitVec.slt]
  congr
theorem signed_ind (p : Prop) : FloatOps.sitofp (F := Ideal) .f32 (BitVec.setWidth 32 (bit p)) = ind p := by
  by_cases h : p
  · rw [bit_true h, ind_true h]
    show (((BitVec.setWidth 32 1#1).toInt : ℝ) : EReal) = 1
    simp
  · rw [bit_false h, ind_false h]
    show (((BitVec.setWidth 32 0#1).toInt : ℝ) : EReal) = 0
    simp
theorem unsigned_ind (p : Prop) : FloatOps.uitofp (F := Ideal) .f32 (bit p) = ind p := by
  by_cases h : p
  · rw [bit_true h, ind_true h]
    show (((1#1).toNat : ℝ) : EReal) = 1
    simp
  · rw [bit_false h, ind_false h]
    show (((0#1).toNat : ℝ) : EReal) = 0
    simp
theorem ind_nonneg (p : Prop) : 0 ≤ ind p := by
  unfold ind; split <;> simp
theorem ind_mul (p : Prop) (x : EReal) : ind p * x = open Classical in if p then x else 0 := by
  unfold ind; split <;> simp

/-! ## The best box of an anchor -/

/-- The greatest of a function's values. -/
def peak (f : Fin 32 → EReal) : EReal := Finset.univ.fold max (lit 0xFF800000#32) f

theorem lit_bot : lit 0xFF800000#32 = ⊥ := by simp [Ideal.ofBits, Ideal.ieee]

theorem le_peak (f : Fin 32 → EReal) (g : Fin 32) : f g ≤ peak f :=
  (Finset.le_fold_max _).2 (Or.inr ⟨g, Finset.mem_univ _, le_rfl⟩)

theorem peak_attained (f : Fin 32 → EReal) : ∃ g, f g = peak f := by
  obtain ⟨g, -, hg⟩ := Finset.exists_max_image Finset.univ f ⟨0, Finset.mem_univ _⟩
  refine ⟨g, le_antisymm (le_peak f g) ?_⟩
  rw [peak, Finset.fold_max_le, lit_bot]
  exact ⟨bot_le, hg⟩

theorem exists_least (f : Fin 32 → EReal) : ∃ g, f g = peak f ∧ ∀ h, f h = peak f → g ≤ h := by
  classical
  obtain ⟨g, hg⟩ := peak_attained f
  have hne : (Finset.univ.filter fun g => f g = peak f).Nonempty := ⟨g, by simp [hg]⟩
  refine ⟨Finset.min' _ hne, ?_, fun h hh => Finset.min'_le _ _ (by simp [hh])⟩
  have := Finset.min'_mem _ hne
  simpa using this

/-- The first place where a function is greatest. -/
def first (f : Fin 32 → EReal) : Fin 32 := (exists_least f).choose
theorem first_spec (f : Fin 32 → EReal) : f (first f) = peak f ∧ ∀ h, f h = peak f → first f ≤ h :=
  (exists_least f).choose_spec
theorem first_unique (f : Fin 32 → EReal) (g : Fin 32) (h : f g = peak f) (hle : ∀ h, f h = peak f → g ≤ h) :
    g = first f :=
  le_antisymm (hle _ (first_spec f).1) ((first_spec f).2 g h)

theorem toInt_small (n : ℕ) (h : n < 2 ^ 31) : (BitVec.ofNat 32 n).toInt = n := by
  rw [BitVec.toInt_ofNat']
  simp only [Int.bmod]
  omega

/-- One step of the search for the greatest value and its first place. -/
def step (a b : EReal × BitVec 32) : EReal × BitVec 32 :=
  let gt := bit (b.1 < a.1)
  (Scalar.select gt a.1 b.1, Scalar.select (IntOp.ori gt (IntOp.andi (bit (a.1 = b.1)) (IntOp.cmpi .slt a.2 b.2))) a.2 b.2)

theorem step_cases (a b : EReal × BitVec 32) :
    (step a b = a ∧ b.1 ≤ a.1 ∧ (b.1 = a.1 → a.2.toInt ≤ b.2.toInt)) ∨
    (step a b = b ∧ a.1 ≤ b.1 ∧ (a.1 = b.1 → b.2.toInt ≤ a.2.toInt)) := by
  obtain ⟨a1, a2⟩ := a
  obtain ⟨b1, b2⟩ := b
  simp only [step, cmpi_slt, andi_bit, ori_bit]
  rcases lt_trichotomy b1 a1 with h | h | h
  · left
    refine ⟨?_, h.le, fun e => absurd e h.ne⟩
    rw [select_true h, select_true (Or.inl h)]
  · subst h
    by_cases hi : a2.toInt < b2.toInt
    · left
      refine ⟨?_, le_rfl, fun _ => hi.le⟩
      rw [select_false (lt_irrefl _), select_true (Or.inr ⟨rfl, hi⟩)]
    · right
      refine ⟨?_, le_rfl, fun _ => not_lt.1 hi⟩
      rw [select_false (lt_irrefl _), select_false (by simp [hi])]
  · right
    refine ⟨?_, h.le, fun e => absurd e h.ne⟩
    rw [select_false (not_lt.2 h.le), select_false]
    rintro (h' | ⟨h', -⟩)
    · exact absurd h' (not_lt.2 h.le)
    · exact h.ne h'

/-- The search over a list ends at the list's greatest value and, of its places there, the least. -/
theorem search (l : List (EReal × BitVec 32)) : ∀ z0 : EReal × BitVec 32,
    (l.foldl step z0 = z0 ∨ l.foldl step z0 ∈ l) ∧
    (∀ p, p = z0 ∨ p ∈ l → p.1 ≤ (l.foldl step z0).1 ∧ (p.1 = (l.foldl step z0).1 → (l.foldl step z0).2.toInt ≤ p.2.toInt)) := by
  induction l with
  | nil => intro z0; simp
  | cons b l ih =>
    intro z0
    rw [List.foldl_cons]
    obtain ⟨h1, h2⟩ := ih (step z0 b)
    have hs := h2 (step z0 b) (Or.inl rfl)
    have key : ∀ p : EReal × BitVec 32, p.1 ≤ (step z0 b).1 → (p.1 = (step z0 b).1 → (step z0 b).2.toInt ≤ p.2.toInt) →
        p.1 ≤ (l.foldl step (step z0 b)).1 ∧
          (p.1 = (l.foldl step (step z0 b)).1 → (l.foldl step (step z0 b)).2.toInt ≤ p.2.toInt) := by
      intro p hp1 hp2
      refine ⟨hp1.trans hs.1, fun e => ?_⟩
      have e1 : p.1 = (step z0 b).1 := le_antisymm hp1 (e ▸ hs.1)
      exact (hs.2 (e1 ▸ e)).trans (hp2 e1)
    rcases step_cases z0 b with ⟨he, hle, hi⟩ | ⟨he, hle, hi⟩
    · refine ⟨?_, ?_⟩
      · rcases h1 with h1 | h1
        · left; rw [h1, he]
        · right; exact List.mem_cons_of_mem _ h1
      · rintro p (rfl | hp)
        · exact key p (by rw [he]) (fun _ => by rw [he])
        · rcases List.mem_cons.1 hp with rfl | hp
          · exact key p (by rw [he]; exact hle) (fun e => by rw [he] at e ⊢; exact hi e)
          · exact h2 p (Or.inr hp)
    · refine ⟨?_, ?_⟩
      · rcases h1 with h1 | h1
        · right; rw [h1, he]; exact List.mem_cons_self
        · right; exact List.mem_cons_of_mem _ h1
      · rintro p (rfl | hp)
        · exact key p (by rw [he]; exact hle) (fun e => by rw [he] at e ⊢; exact hi e)
        · rcases List.mem_cons.1 hp with rfl | hp
          · exact key p (by rw [he]) (fun _ => by rw [he])
          · exact h2 p (Or.inr hp)

/-- The search over all the places of a function, in any order, finds the first place where it is greatest. -/
theorem search_first (f : Fin 32 → EReal) (l : List (EReal × BitVec 32))
    (h1 : ∀ p ∈ l, ∃ g : Fin 32, p = (f g, BitVec.ofNat 32 g.val)) (h2 : ∀ g : Fin 32, (f g, BitVec.ofNat 32 g.val) ∈ l) :
    (l.foldl step (⊥, 0#32)).2 = BitVec.ofNat 32 (first f).val := by
  obtain ⟨hm, hb⟩ := search l (⊥, 0#32)
  have hz : ∃ g : Fin 32, (l.foldl step (⊥, 0#32)).2 = BitVec.ofNat 32 g.val ∧ (l.foldl step (⊥, 0#32)).1 = f g := by
    rcases hm with hm | hm
    · refine ⟨0, by rw [hm]; rfl, ?_⟩
      have := (hb _ (Or.inr (h2 0))).1
      rw [hm] at this ⊢
      exact (le_bot_iff.1 this).symm
    · obtain ⟨g, hg⟩ := h1 _ hm
      exact ⟨g, by rw [hg], by rw [hg]⟩
  obtain ⟨g, hg2, hg1⟩ := hz
  have hp : f g = peak f := by
    obtain ⟨k, hk⟩ := peak_attained f
    refine le_antisymm (le_peak f g) ?_
    rw [← hk, ← hg1]
    exact (hb _ (Or.inr (h2 k))).1
  rw [hg2, first_unique f g hp]
  intro h hh
  have := (hb _ (Or.inr (h2 h))).2 (by rw [hg1, hp]; exact hh)
  rw [hg2, toInt_small _ (by omega), toInt_small _ (by omega)] at this
  exact Fin.le_def.2 (by exact_mod_cast this)

/-- The least place where a function is greatest, found as the least of those places' numbers. -/
theorem min_first (f : Fin 32 → EReal) (q : Fin 32 → BitVec 1) (hq : ∀ g, q g = bit (f g = peak f)) :
    Finset.fold IntOp.minsi 2147483647#32 (fun x : Fin 32 => Scalar.select (q x) (BitVec.ofNat 32 x.val) 32#32) Finset.univ
      = BitVec.ofNat 32 (first f).val := by
  have hval : ∀ x : Fin 32, (f x = peak f → Scalar.select (q x) (BitVec.ofNat 32 x.val) 32#32 = BitVec.ofNat 32 x.val) ∧
      (f x ≠ peak f → Scalar.select (q x) (BitVec.ofNat 32 x.val) 32#32 = 32#32) := fun x => by
    rw [hq]
    exact ⟨fun h => select_true h _ _, fun h => select_false h _ _⟩
  have hmin : ∀ a b : BitVec 32, (IntOp.minsi a b).toInt = min a.toInt b.toInt := fun a b => by
    unfold IntOp.minsi
    simp only [BitVec.slt]
    split <;> rename_i h <;> simp at h <;> omega
  have hfold : ∀ s : Finset (Fin 32), (Finset.fold IntOp.minsi 2147483647#32
      (fun x : Fin 32 => Scalar.select (q x) (BitVec.ofNat 32 x.val) 32#32) s).toInt
      = s.fold min 2147483647 (fun x => (Scalar.select (q x) (BitVec.ofNat 32 x.val) 32#32).toInt) := fun s => by
    classical
    induction s using Finset.induction_on with
    | empty => rfl
    | insert a s ha ih => rw [Finset.fold_insert ha, Finset.fold_insert ha, hmin, ih]
  apply BitVec.eq_of_toInt_eq
  rw [hfold, toInt_small _ (by omega)]
  apply le_antisymm
  · rw [Finset.fold_min_le]
    right
    refine ⟨first f, Finset.mem_univ _, ?_⟩
    rw [(hval _).1 (first_spec f).1, toInt_small _ (by omega)]
  · rw [Finset.le_fold_min]
    refine ⟨by have := (first f).isLt; omega, fun x _ => ?_⟩
    by_cases hx : f x = peak f
    · rw [(hval _).1 hx, toInt_small _ (by omega)]
      exact_mod_cast Fin.le_def.1 ((first_spec f).2 x hx)
    · rw [(hval _).2 hx]
      have := (first f).isLt
      show _ ≤ (32 : ℤ)
      omega

/-! ## Boxes -/

/-- A box: its left, top, right and bottom edges. -/
abbrev Box := Fin 4 → EReal

/-- The area two boxes share. -/
def inter (a b : Box) : EReal :=
  max (min (a 2) (b 2) - max (a 0) (b 0)) 0 * max (min (a 3) (b 3) - max (a 1) (b 1)) 0

/-- The overlap of two boxes over their union. -/
def iou (a b : Box) : EReal :=
  Ideal.div (inter a b)
    (max ((a 2 - a 0) * (a 3 - a 1) + (b 2 - b 0) * (b 3 - b 1) - inter a b) (lit 0x322BCC77#32))

/-- An anchor's greatest overlap with a box. -/
def best (G : Fin 32 → Box) (a : Box) : EReal := peak fun g => iou a (G g)
/-- The first box an anchor overlaps most. -/
def arg (G : Fin 32 → Box) (a : Box) : Fin 32 := first fun g => iou a (G g)
/-- An anchor is positive. -/
def Pos (G : Fin 32 → Box) (a : Box) : Prop := lit 0x3F000000#32 ≤ best G a
/-- An anchor is negative. -/
def Neg (G : Fin 32 → Box) (a : Box) : Prop := best G a < lit 0x3ECCCCCD#32

/-! ## The three losses of an image: boxes `G` of labels `lab`, anchors `A`, scores `X`, regressions `R`,
location scores `L` -/

section
variable (G : Fin 32 → Box) (lab : Fin 32 → BitVec 32) (A : Fin 49104 → Box) (X : Fin 49104 → Fin 80 → EReal)
  (R : Fin 49104 → Box) (L : Fin 49104 → EReal)

/-- How many anchors are positive. -/
def npos : EReal := ∑ n, ind (Pos G (A n))
/-- The losses' divisor. -/
def den : EReal := max (npos G A) 1
/-- Some positive anchor chose a box. -/
def Used (g : Fin 32) : Prop := ∃ n, Pos G (A n) ∧ arg G (A n) = g

/-- The regression targets of an anchor and a box, before their scaling. -/
def offs (a b : Box) : Fin 4 → EReal :=
  ![Ideal.div (b 0 + lit 0x3F000000#32 * (b 2 - b 0) - (a 0 + lit 0x3F000000#32 * (a 2 - a 0))) (a 2 - a 0),
    Ideal.div (b 1 + lit 0x3F000000#32 * (b 3 - b 1) - (a 1 + lit 0x3F000000#32 * (a 3 - a 1))) (a 3 - a 1),
    Ideal.log (Ideal.div (max (b 2 - b 0) 1) (a 2 - a 0)),
    Ideal.log (Ideal.div (max (b 3 - b 1) 1) (a 3 - a 1))]
/-- The targets' scales. -/
def scale : Fin 4 → EReal := ![lit 0x3DCCCCCD#32, lit 0x3DCCCCCD#32, lit 0x3E4CCCCD#32, lit 0x3E4CCCCD#32]
/-- How far a regression is from its target. -/
def gap (a b r : Box) (k : Fin 4) : EReal :=
  max (Ideal.div (offs a b k) (scale k) - r k) (-(Ideal.div (offs a b k) (scale k) - r k))
open Classical in
/-- The smooth absolute value. -/
def smooth (d : EReal) : EReal :=
  if d ≤ lit 0x3DE38E39#32 then lit 0x40900000#32 * (d * d) else d - lit 0x3D638E39#32
theorem smooth_of (d : EReal) [Decidable (d ≤ lit 0x3DE38E39#32)] :
    (if d ≤ lit 0x3DE38E39#32 then lit 0x40900000#32 * (d * d) else d - lit 0x3D638E39#32) = smooth d := by
  unfold smooth
  congr
/-- The regression loss before its divisor. -/
def regSum : EReal := ∑ n, ∑ k, ind (Pos G (A n)) * smooth (gap (A n) (G (arg G (A n))) (R n) k)

/-- An anchor moved by its regression. -/
def move (a r : Box) : Box :=
  ![max (a 0 + lit 0x3F000000#32 * (a 2 - a 0) + r 0 * lit 0x3DCCCCCD#32 * (a 2 - a 0)
      - lit 0x3F000000#32 * (Ideal.exp (r 2 * lit 0x3E4CCCCD#32) * (a 2 - a 0))) 0,
    max (a 1 + lit 0x3F000000#32 * (a 3 - a 1) + r 1 * lit 0x3DCCCCCD#32 * (a 3 - a 1)
      - lit 0x3F000000#32 * (Ideal.exp (r 3 * lit 0x3E4CCCCD#32) * (a 3 - a 1))) 0,
    min (a 0 + lit 0x3F000000#32 * (a 2 - a 0) + r 0 * lit 0x3DCCCCCD#32 * (a 2 - a 0)
      + lit 0x3F000000#32 * (Ideal.exp (r 2 * lit 0x3E4CCCCD#32) * (a 2 - a 0))) (lit 0x44000000#32),
    min (a 1 + lit 0x3F000000#32 * (a 3 - a 1) + r 1 * lit 0x3DCCCCCD#32 * (a 3 - a 1)
      + lit 0x3F000000#32 * (Ideal.exp (r 3 * lit 0x3E4CCCCD#32) * (a 3 - a 1))) (lit 0x44000000#32)]
open Classical in
/-- A box's greatest overlap with a box in use. -/
def usedBest (U : Fin 32 → Prop) (a : Box) : EReal := peak fun g => if U g then iou a (G g) else lit 0xBF800000#32
/-- A number brought into the range of the scores. -/
def clip (x : EReal) : EReal := min (lit 0x3F7FF972#32) (max (lit 0x38D1B717#32) x)
/-- The location loss of one anchor. -/
def locTerm (U : Fin 32 → Prop) (a r : Box) (l : EReal) : EReal :=
  -(Ideal.log (clip (1 - max (l - usedBest G U (move a r)) (-(l - usedBest G U (move a r))))))
/-- The location loss before its divisor. -/
def locSum : EReal := ∑ n, ind (Pos G (A n)) * locTerm G (Used G A) (A n) (R n) (L n)

/-- The focal loss of a score whose class is not the anchor's. -/
def f0 (x : EReal) : EReal := lit 0x3F400000#32 * (x * x) * -(Ideal.log (1 - x))
/-- The focal loss of the anchor's class's score. -/
def f1 (x : EReal) : EReal := lit 0x3E800000#32 * ((1 - x) * (1 - x)) * -(Ideal.log x)
open Classical in
/-- The focal loss of one anchor and class. -/
def clsTerm (a : Box) (x : EReal) (c : Fin 80) : EReal :=
  if Pos G a then (if lab (arg G a) = BitVec.ofNat 32 c.val then f1 x else f0 x) else ind (Neg G a) * f0 x
/-- The focal loss before its divisor. -/
def clsSum : EReal := ∑ n, ∑ c, clsTerm G lab (A n) (X n c) c

open Classical in
/-- The classification loss. -/
def clsLoss : EReal := Ideal.div (clsSum G lab A X) (den G A)
open Classical in
/-- The regression loss. -/
def regLoss : EReal := if 0 < npos G A then Ideal.div (regSum G A R) (den G A * lit 0x40800000#32) else 0
open Classical in
/-- The location loss. -/
def locLoss : EReal := if 0 < npos G A then Ideal.div (locSum G A R L) (den G A) else 0

end

/-! ## Facts about the constants -/

theorem lit_two : lit 0x40000000#32 = ((2 : ℝ) : EReal) := by
  simp [Ideal.ofBits, Ideal.ieee, -EReal.coe_mul]; norm_num
theorem lit_eight : lit 0x41000000#32 = ((8 : ℝ) : EReal) := by
  simp [Ideal.ofBits, Ideal.ieee, -EReal.coe_mul]; norm_num
theorem lit_eighth : lit 0x3E000000#32 = ((1 / 8 : ℝ) : EReal) := by
  simp [Ideal.ofBits, Ideal.ieee, -EReal.coe_mul]; norm_num
theorem lit_neg_one : lit 0xBF800000#32 = ((-1 : ℝ) : EReal) := by
  simp [Ideal.ofBits, Ideal.ieee, -EReal.coe_mul, -EReal.coe_neg]; norm_num
theorem lit_three_quarters : lit 0x3F400000#32 = ((3 / 4 : ℝ) : EReal) := by
  simp [Ideal.ofBits, Ideal.ieee, -EReal.coe_mul]; norm_num
theorem lit_neg_three_quarters : lit 0xBF400000#32 = -lit 0x3F400000#32 := by
  rw [lit_three_quarters, ← EReal.coe_neg]
  simp [Ideal.ofBits, Ideal.ieee, -EReal.coe_mul, -EReal.coe_neg]; norm_num
theorem lit_low : ∃ r : ℝ, lit 0x38D1B717#32 = (r : EReal) ∧ 0 < r := by
  refine ⟨(1 : ℝ) * (2 ^ 23 + 5355287) * 2 ^ (-37 : ℤ), ?_, by positivity⟩
  simp [Ideal.ofBits, Ideal.ieee, -EReal.coe_mul]; norm_num
theorem lit_high : ∃ r : ℝ, lit 0x3F7FF972#32 = (r : EReal) ∧ r < 1 := by
  refine ⟨(1 : ℝ) * (2 ^ 23 + 8386930) * 2 ^ (-24 : ℤ), ?_, by norm_num⟩
  simp [Ideal.ofBits, Ideal.ieee, -EReal.coe_mul]; norm_num

/-- A score of the range is a real number between zero and one. -/
theorem real_of_range {x : EReal} (h1 : lit 0x38D1B717#32 ≤ x) (h2 : x ≤ lit 0x3F7FF972#32) :
    ∃ r : ℝ, x = (r : EReal) ∧ 0 < r ∧ r < 1 := by
  obtain ⟨a, ha, ha0⟩ := lit_low
  obtain ⟨b, hb, hb1⟩ := lit_high
  rw [ha] at h1
  rw [hb] at h2
  have hx1 : x ≠ ⊥ := fun e => by rw [e] at h1; exact absurd h1 (by simp)
  have hx2 : x ≠ ⊤ := fun e => by rw [e] at h2; exact absurd h2 (by simp)
  lift x to ℝ using ⟨hx2, hx1⟩
  exact ⟨x, rfl, ha0.trans_le (EReal.coe_le_coe_iff.1 h1), (EReal.coe_le_coe_iff.1 h2).trans_lt hb1⟩
theorem clip_of_range {x : EReal} (h1 : lit 0x38D1B717#32 ≤ x) (h2 : x ≤ lit 0x3F7FF972#32) : clip x = x := by
  rw [clip, max_eq_right h1, min_eq_right h2]
theorem pow_two (r : ℝ) : Ideal.pow (r : EReal) (lit 0x40000000#32) = (r : EReal) * (r : EReal) := by
  rw [lit_two, ← EReal.coe_mul]
  show ((Real.rpow r 2 : ℝ) : EReal) = _
  congr 1
  rw [show Real.rpow r 2 = r ^ (2 : ℝ) from rfl, Real.rpow_two, sq]

open Classical in
/-- The focal loss of a score with a target of one, zero or minus one (for no loss). -/
def focal (t x : EReal) : EReal :=
  if t ≠ lit 0xBF800000#32 then
    (if t = 1 then lit 0x3E800000#32 else lit 0x3F400000#32) * Ideal.pow (if t = 1 then 1 - x else x) (lit 0x40000000#32)
      * -(t * Ideal.log x + (1 - t) * Ideal.log (1 - x))
  else 0

theorem focal_none (x : EReal) : focal (lit 0xBF800000#32) x = 0 := if_neg fun h => h rfl
theorem focal_one {x : EReal} (h1 : lit 0x38D1B717#32 ≤ x) (h2 : x ≤ lit 0x3F7FF972#32) : focal 1 x = f1 x := by
  obtain ⟨r, rfl, -, -⟩ := real_of_range h1 h2
  unfold focal f1
  have e : (1 : EReal) ≠ lit 0xBF800000#32 := by
    rw [lit_neg_one, show (1 : EReal) = ((1 : ℝ) : EReal) from rfl, Ne, EReal.coe_eq_coe_iff]; norm_num
  have e1 : (1 : EReal) - 1 = 0 := by
    rw [show (1 : EReal) = ((1 : ℝ) : EReal) from rfl, ← EReal.coe_sub]; simp
  have e2 : (1 : EReal) - (r : EReal) = ((1 - r : ℝ) : EReal) := by rw [EReal.coe_sub]; rfl
  rw [if_pos e, if_pos rfl, if_pos rfl, e1, zero_mul, add_zero, one_mul, e2, pow_two]
theorem focal_zero {x : EReal} (h1 : lit 0x38D1B717#32 ≤ x) (h2 : x ≤ lit 0x3F7FF972#32) : focal 0 x = f0 x := by
  obtain ⟨r, rfl, -, -⟩ := real_of_range h1 h2
  unfold focal f0
  have e : (0 : EReal) ≠ lit 0xBF800000#32 := by
    rw [lit_neg_one, show (0 : EReal) = ((0 : ℝ) : EReal) from rfl, Ne, EReal.coe_eq_coe_iff]; norm_num
  have e0 : ¬ (0 : EReal) = 1 := zero_ne_one
  rw [if_pos e, if_neg e0, if_neg e0, zero_mul, zero_add, sub_zero, one_mul, pow_two]

/-! ## The arrays' images -/

/-- An image's boxes. -/
def gts (x : (⟨3, ![8, 32, 5]⟩ : Shape).Idx → EReal) (b : Fin 8) (g : Fin 32) : Box :=
  fun k => x (ix3 b g (k.castLE (by decide) : Fin 5))
/-- An image's labels. -/
def labs (x : (⟨3, ![8, 32, 5]⟩ : Shape).Idx → EReal) (b : Fin 8) (g : Fin 32) : BitVec 32 :=
  Ideal.fptosi 32 (x (ix3 b g (4 : Fin 5)))
/-- The anchors. -/
def ancs (x : (⟨3, ![1, 49104, 4]⟩ : Shape).Idx → EReal) (n : Fin 49104) : Box := fun k => x (ix3 (0 : Fin 1) n k)
/-- An image's regressions. -/
def rows (x : (⟨3, ![8, 49104, 4]⟩ : Shape).Idx → EReal) (b : Fin 8) (n : Fin 49104) : Box := fun k => x (ix3 b n k)
/-- An image's scores. -/
def scores (x : (⟨3, ![8, 49104, 80]⟩ : Shape).Idx → EReal) (b : Fin 8) (n : Fin 49104) (c : Fin 80) : EReal := x (ix3 b n c)
/-- An image's location scores. -/
def locs (x : (⟨3, ![8, 49104, 1]⟩ : Shape).Idx → EReal) (b : Fin 8) (n : Fin 49104) : EReal := x (ix3 b n (0 : Fin 1))

/-! ## The boxes in use, counted -/

theorem sum_pos_iff {N : ℕ} (p : Fin N → Prop) : 0 < ∑ n, ind (p n) ↔ ∃ n, p n := by
  constructor
  · intro h
    by_contra hn
    push Not at hn
    rw [Finset.sum_eq_zero fun n _ => ind_false (hn n)] at h
    exact lt_irrefl _ h
  · rintro ⟨n, hn⟩
    have : ind (p n) ≤ ∑ n, ind (p n) := Finset.single_le_sum (fun i _ => ind_nonneg (p i)) (Finset.mem_univ n)
    rw [ind_true hn] at this
    exact lt_of_lt_of_le zero_lt_one this
theorem ind_and (p q : Prop) : ind p * ind q = ind (p ∧ q) := by
  by_cases hp : p <;> by_cases hq : q <;> simp [ind, hp, hq]
theorem used_iff (G : Fin 32 → Box) (A : Fin 49104 → Box) (g : Fin 32) :
    Used G A g ↔ 0 < ∑ n, ind (arg G (A n) = g) * ind (Pos G (A n)) := by
  simp only [ind_and]
  rw [sum_pos_iff]
  exact exists_congr fun n => and_comm

/-- The mean of eight losses. -/
def mean (f : Fin 8 → EReal) : EReal := Ideal.div (∑ b, f b) (lit 0x41000000#32)

end Cert.Spec

end
-- ==== Proof.IVal.lean ====
module

public import proofs.«01_k».proof.Proof.IFlow
public import proofs.«01_k».proof.Proof.Spec
public import Idealize.ShloMosaic.Lib.Pointwise

@[expose] public section

set_option maxRecDepth 16384
set_option maxHeartbeats 2000000

noncomputable section

namespace Cert.KernelIdeal.Hand

open Idealize.ShloMosaic Idealize.SL.Sem
open Cert.KernelIdeal Cert.KernelIdeal.Gen Cert.Spec

/-- A column of a block of anchors: one box. -/
def boxA (x : Vec Ideal S4x24576 .f32) (n : Fin 24576) : Box := fun k => x (ix2 k n)
/-- A box of an image's annotations, its label left out. -/
def boxG (x : Vec Ideal S1x32x5 .f32) (g : Fin 32) : Box := fun k => x (ix3 (0 : Fin 1) g (k.castLE (by decide) : Fin 5))

theorem iou_at (x3 : Vec Ideal S4x24576 .f32) (x4 : Vec Ideal S1x32x5 .f32) (g : Fin 32) (n : Fin 24576) :
    k0_pay46 (k0_pay2 x3) (k0_pay3 x3) (k0_pay4 x3) (k0_pay5 x3) x4 (ix2 g n) = iou (boxA x3 n) (boxG x4 g) := by
  unfold k0_pay46 k0_pay2 k0_pay3 k0_pay4 k0_pay5 k0_pay1 k0_pay44
  pointwise
  rfl

/-- Whether anchor `n` of half `h` is one of the given anchors. -/
def Live (h : ℕ) (n : Fin 24576) : Prop := h * 24576 + n.val < 49104

section
variable (v : IVec S1x24576 1) (b6 : FVec Ideal S1x24576 .f32) (ix q w : IVec S32x24576 32) (e : IVec S32x24576 1) (n : Fin 24576) (g : Fin 32)
theorem pay50_at : k0_pay50 (F := Ideal) v b6 (ix2 0 n) = IntOp.andi (bit (lit 0x3F000000#32 ≤ b6 (ix2 0 n))) (v (ix2 0 n)) := by
  unfold k0_pay50
  pointwise
  rw [bit_of]
theorem pay51_at : k0_pay51 (F := Ideal) v b6 (ix2 0 n) = FloatOps.sitofp (F := Ideal) .f32 (BitVec.setWidth 32 (k0_pay50 (F := Ideal) v b6 (ix2 0 n))) := by
  unfold k0_pay51
  pointwise
theorem pay56_at : k0_pay56 (F := Ideal) v b6 (ix2 0 n) = k0_pay51 (F := Ideal) v b6 (ix2 0 n) := by
  unfold k0_pay56
  pointwise
theorem pay52_at : k0_pay52 (F := Ideal) v b6 (ix2 0 n) = FloatOps.sitofp (F := Ideal) .f32 (BitVec.setWidth 32
    (IntOp.andi (IntOp.ori (k0_pay50 (F := Ideal) v b6 (ix2 0 n)) (bit (b6 (ix2 0 n) < lit 0x3ECCCCCD#32))) (v (ix2 0 n)))) := by
  unfold k0_pay52
  pointwise
  rw [bit_of]
theorem pay53_at : k0_pay53 (F := Ideal) v b6 boxIx e k0_pay49 (ix2 g n) = FloatOps.sitofp (F := Ideal) .f32 (BitVec.setWidth 32
    (IntOp.andi (IntOp.cmpi .eq (BitVec.ofNat 32 g.val) (Finset.univ.fold IntOp.minsi 2147483647#32 fun x => Scalar.select (e (ix2 x n)) (BitVec.ofNat 32 x.val) 32#32))
      (k0_pay50 (F := Ideal) v b6 (ix2 0 n)))) := by
  unfold k0_pay53 k0_pay49 boxIx
  pointwise
theorem pay54_at (u : Vec Ideal S32x1 .f32) : k0_pay54 (F := Ideal) v b6 ix e w u (ix2 g 0)
    = (u (ix2 g 0) : EReal) + ∑ n, k0_pay53 (F := Ideal) v b6 ix e w (ix2 g n) := by
  unfold k0_pay54
  pointwise
theorem pay55_at (u : Vec Ideal S1x1 .f32) : k0_pay55 (F := Ideal) v b6 u (ix2 0 0)
    = (u (ix2 0 0) : EReal) + ∑ n, k0_pay51 (F := Ideal) v b6 (ix2 0 n) := by
  unfold k0_pay55
  pointwise
  rw [Fin.sum_univ_one]
end

section
variable (x3 : Vec Ideal S4x24576 .f32) (x4 : Vec Ideal S1x32x5 .f32)

theorem best_at (n : Fin 24576) : Hand.best (F := Ideal) x3 x4 (ix2 0 n) = Spec.best (boxG x4) (boxA x3 n) := by
  unfold Hand.best k0_pay47
  pointwise
  simp only [iou_at]
  rfl
theorem isBest_at (g : Fin 32) (n : Fin 24576) : isBest (F := Ideal) x3 x4 (ix2 g n)
    = bit (iou (boxA x3 n) (boxG x4 g) = Spec.best (boxG x4) (boxA x3 n)) := by
  have h := best_at x3 x4 n
  unfold Hand.best at h
  unfold isBest k0_pay48
  pointwise
  rw [iou_at, h]
  exact bit_of _
theorem live_bit (h : ℕ) (hh : h < 2) (n : Fin 24576) :
    IntOp.cmpi .slt (IntOp.addi (Scalar.muli (BitVec.ofNat 32 h) 24576#32) (BitVec.ofNat 32 n.val)) 49104#32 = bit (Live h n) := by
  rw [show IntOp.addi (Scalar.muli (BitVec.ofNat 32 h) 24576#32) (BitVec.ofNat 32 n.val) = BitVec.ofNat 32 (h * 24576 + n.val) from ?_]
  · rw [cmpi_slt, toInt_small _ (by omega), Live]
    exact bit_congr (by rw [show (49104#32 : BitVec 32).toInt = 49104 from by decide]; norm_cast)
  · show BitVec.ofNat 32 h * 24576#32 + BitVec.ofNat 32 n.val = _
    rw [show (24576#32 : BitVec 32) = BitVec.ofNat 32 24576 from rfl, ← BitVec.ofNat_mul, ← BitVec.ofNat_add]
theorem live_at (h : ℕ) (hh : h < 2) (n : Fin 24576) : vld (BitVec.ofNat 32 h) (ix2 0 n) = bit (Live h n) := by
  unfold vld k0_pay45
  pointwise
  exact live_bit h hh n
theorem pos_at (h : ℕ) (hh : h < 2) (n : Fin 24576) : k0_pay50 (F := Ideal) (vld (BitVec.ofNat 32 h)) (Hand.best x3 x4) (ix2 0 n)
    = bit (Pos (boxG x4) (boxA x3 n) ∧ Live h n) := by
  rw [pay50_at, best_at, live_at h hh, andi_bit, Pos]
theorem posf_at (h : ℕ) (hh : h < 2) (n : Fin 24576) : k0_pay51 (F := Ideal) (vld (BitVec.ofNat 32 h)) (Hand.best x3 x4) (ix2 0 n)
    = ind (Pos (boxG x4) (boxA x3 n) ∧ Live h n) := by
  rw [pay51_at, pos_at x3 x4 h hh, signed_ind]
theorem posRow_at (h : ℕ) (hh : h < 2) (n : Fin 24576) : posRow (F := Ideal) (BitVec.ofNat 32 h) x3 x4 (ix2 0 n)
    = ind (Pos (boxG x4) (boxA x3 n) ∧ Live h n) := by
  rw [posRow, pay56_at, posf_at x3 x4 h hh]
theorem care_at (h : ℕ) (hh : h < 2) (n : Fin 24576) : k0_pay52 (F := Ideal) (vld (BitVec.ofNat 32 h)) (Hand.best x3 x4) (ix2 0 n)
    = ind ((Pos (boxG x4) (boxA x3 n) ∨ Spec.Neg (boxG x4) (boxA x3 n)) ∧ Live h n) := by
  rw [pay52_at, pos_at x3 x4 h hh, best_at, live_at h hh, ori_bit, andi_bit, signed_ind, Spec.Neg]
  exact congrArg ind (propext ⟨fun ⟨a, b⟩ => ⟨a.imp And.left id, b⟩, fun ⟨a, b⟩ => ⟨a.imp (fun p => ⟨p, b⟩) id, b⟩⟩)
theorem asg_at (h : ℕ) (hh : h < 2) (g : Fin 32) (n : Fin 24576) : asg (F := Ideal) (BitVec.ofNat 32 h) x3 x4 (ix2 g n)
    = ind (arg (boxG x4) (boxA x3 n) = g ∧ Pos (boxG x4) (boxA x3 n) ∧ Live h n) := by
  rw [asg, pay53_at, pos_at x3 x4 h hh]
  have e := min_first (fun g => iou (boxA x3 n) (boxG x4 g)) (fun g => isBest (F := Ideal) x3 x4 (ix2 g n)) fun g => isBest_at x3 x4 g n
  erw [e]
  rw [cmpi_eq, andi_bit, signed_ind]
  refine congrArg ind (propext (and_congr_left' ⟨fun q => ?_, fun q => ?_⟩))
  · have := congrArg BitVec.toNat q
    simp only [BitVec.toNat_ofNat] at this
    have h1 := g.isLt
    have h2 := (first fun g => iou (boxA x3 n) (boxG x4 g)).isLt
    rw [Nat.mod_eq_of_lt (by omega), Nat.mod_eq_of_lt (by omega)] at this
    exact Fin.ext this.symm
  · rw [← q]
    rfl
theorem usedStep_at (h : ℕ) (hh : h < 2) (u : Vec Ideal S32x1 .f32) (g : Fin 32) : usedStep (F := Ideal) (BitVec.ofNat 32 h) x3 x4 u (ix2 g 0)
    = (u (ix2 g 0) : EReal) + ∑ n, ind (arg (boxG x4) (boxA x3 n) = g ∧ Pos (boxG x4) (boxA x3 n) ∧ Live h n) := by
  rw [usedStep, pay54_at]
  exact congrArg _ (Finset.sum_congr rfl fun n _ => asg_at x3 x4 h hh g n)
theorem nposStep_at (h : ℕ) (hh : h < 2) (u : Vec Ideal S1x1 .f32) : nposStep (F := Ideal) (BitVec.ofNat 32 h) x3 x4 u (ix2 0 0)
    = (u (ix2 0 0) : EReal) + ∑ n, ind (Pos (boxG x4) (boxA x3 n) ∧ Live h n) := by
  rw [nposStep, pay55_at]
  exact congrArg _ (Finset.sum_congr rfl fun n _ => posf_at x3 x4 h hh n)
end
end Cert.KernelIdeal.Hand

end
-- ==== Proof.IReg.lean ====
module

public import proofs.«01_k».proof.Proof.IVal

@[expose] public section

set_option maxRecDepth 16384
set_option maxHeartbeats 2000000

noncomputable section

namespace Cert.KernelIdeal.Hand

open Idealize.ShloMosaic Idealize.SL.Sem
open Cert.KernelIdeal Cert.KernelIdeal.Gen Cert.Spec

theorem abs_eq (x : EReal) : FloatOps.absf (F := Ideal) (φ := .f32) x = max x (-x) := rfl

section
variable (y6 y7 y10 y13 : FVec Ideal S1x24576 .f32) (a : FVec Ideal S32x24576 .f32) (w : Vec Ideal S1x4x32 .f32) (x : Vec Ideal S1x4x24576 .f32)
  (p : FVec Ideal S1x24576 .f32) (d : FVec Ideal S4x24576 .f32) (z : IVec S4x24576 1) (n : Fin 24576)

/-- The distance of a regression from its target, of the anchor's widths and centres and the box the assignment picks. -/
theorem pay57_at (b c r : Box) (h6 : y6 (ix2 0 n) = (b 2 - b 0 : EReal)) (h7 : y7 (ix2 0 n) = (b 3 - b 1 : EReal))
    (h10 : y10 (ix2 0 n) = (b 0 + lit 0x3F000000#32 * (b 2 - b 0) : EReal)) (h13 : y13 (ix2 0 n) = (b 1 + lit 0x3F000000#32 * (b 3 - b 1) : EReal))
    (hw : ∀ k : Fin 4, (∑ g : Fin 32, (w (ix3 0 k g) * a (ix2 g n) : EReal)) = c k) (hx : ∀ k : Fin 4, (x (ix3 0 k n) : EReal) = r k)
    (k : Fin 4) : k0_pay57 (F := Ideal) y6 y7 y10 y13 a w x (ix2 k n) = gap b c r k := by
  have w0 := hw 0
  have w1 := hw 1
  have w2 := hw 2
  have w3 := hw 3
  unfold k0_pay57
  match k with
  | ⟨0, _⟩ => pointwise; simp only [h6, h10, w0, w2, hx 0, abs_eq]; rfl
  | ⟨1, _⟩ => pointwise; simp only [h7, h13, w1, w3, hx 1, abs_eq]; rfl
  | ⟨2, _⟩ => pointwise; simp only [h6, w0, w2, hx 2, abs_eq]; rfl
  | ⟨3, _⟩ => pointwise; simp only [h7, w1, w3, hx 3, abs_eq]; rfl
theorem pay58_at (k : Fin 4) : k0_pay58 (F := Ideal) y6 y7 y10 y13 a w x (ix2 k n)
    = bit (k0_pay57 (F := Ideal) y6 y7 y10 y13 a w x (ix2 k n) ≤ lit 0x3DE38E39#32) := by
  unfold k0_pay58
  pointwise
  rw [bit_of]
theorem pay60_at (u : Vec Ideal S1x1 .f32) (hz : ∀ k n, z (ix2 k n) = bit (d (ix2 k n) ≤ lit 0x3DE38E39#32)) :
    k0_pay60 (F := Ideal) p d z k0_pay59 u (ix2 0 0) = (u (ix2 0 0) : EReal) + ∑ k : Fin 4, ∑ n, smooth (d (ix2 k n)) * p (ix2 0 n) := by
  unfold k0_pay60 k0_pay59
  pointwise
  refine congrArg _ (Finset.sum_congr rfl fun k _ => Finset.sum_congr rfl fun n _ => congrArg (· * p (ix2 0 n)) ?_)
  rw [hz, mul_assoc]
  unfold smooth
  by_cases h : d (ix2 k n) ≤ lit 0x3DE38E39#32
  · rw [select_true h, if_pos h]
  · rw [select_false h, if_neg h]
end

section
variable (x3 : Vec Ideal S4x24576 .f32) (n : Fin 24576)
theorem w6_at : w6 (F := Ideal) x3 (ix2 0 n) = (boxA x3 n 2 - boxA x3 n 0 : EReal) := by
  unfold w6 k0_pay6 k0_pay2 k0_pay4 k0_pay1
  pointwise
  rfl
theorem w7_at : w7 (F := Ideal) x3 (ix2 0 n) = (boxA x3 n 3 - boxA x3 n 1 : EReal) := by
  unfold w7 k0_pay7 k0_pay3 k0_pay5 k0_pay1
  pointwise
  rfl
theorem w10_at : w10 (F := Ideal) x3 (ix2 0 n) = (boxA x3 n 0 + lit 0x3F000000#32 * (boxA x3 n 2 - boxA x3 n 0) : EReal) := by
  unfold w10 k0_pay8 k0_pay6 k0_pay2 k0_pay4 k0_pay1
  pointwise
  rfl
theorem w13_at : w13 (F := Ideal) x3 (ix2 0 n) = (boxA x3 n 1 + lit 0x3F000000#32 * (boxA x3 n 3 - boxA x3 n 1) : EReal) := by
  unfold w13 k0_pay9 k0_pay7 k0_pay3 k0_pay5 k0_pay1
  pointwise
  rfl
variable (x4 : Vec Ideal S1x32x5 .f32) (h : ℕ) (hh : h < 2)
include hh
/-- The assignment picks the chosen box of a positive anchor. -/
theorem picked (f : Fin 32 → EReal) (hp : Pos (boxG x4) (boxA x3 n) ∧ Live h n) :
    (∑ g : Fin 32, (f g * asg (F := Ideal) (BitVec.ofNat 32 h) x3 x4 (ix2 g n) : EReal)) = f (arg (boxG x4) (boxA x3 n)) := by
  have e : ∀ g : Fin 32, (f g * asg (F := Ideal) (BitVec.ofNat 32 h) x3 x4 (ix2 g n) : EReal)
      = f g * ind (arg (boxG x4) (boxA x3 n) = g) := fun g => by
    rw [asg_at x3 x4 h hh]
    exact congrArg (f g * ind ·) (propext (and_iff_left hp))
  rw [Finset.sum_congr rfl fun g _ => e g, Finset.sum_eq_single (arg (boxG x4) (boxA x3 n)), ind_true rfl, mul_one]
  · intro g _ hg
    rw [ind_false fun q => hg q.symm, mul_zero]
  · exact fun q => absurd (Finset.mem_univ _) q
/-- The regression sum of a block. -/
theorem regStep_at (x5 : Vec Ideal S1x5x32 .f32) (x6 : Vec Ideal S1x4x24576 .f32) (u : Vec Ideal S1x1 .f32)
    (h5 : ∀ k g, rows4 (F := Ideal) x5 (ix3 0 k g) = boxG x4 g k) :
    regStep (F := Ideal) (BitVec.ofNat 32 h) x3 x4 x5 x6 u (ix2 0 0) = (u (ix2 0 0) : EReal)
      + ∑ k : Fin 4, ∑ n, smooth (gap (boxA x3 n) (boxG x4 (arg (boxG x4) (boxA x3 n))) (fun k => x6 (ix3 0 k n)) k)
          * ind (Pos (boxG x4) (boxA x3 n) ∧ Live h n) := by
  rw [regStep, pay60_at _ _ _ _ fun k n => pay58_at _ _ _ _ _ _ _ n k]
  refine congrArg _ (Finset.sum_congr rfl fun k _ => Finset.sum_congr rfl fun n _ => ?_)
  rw [posf_at x3 x4 h hh]
  by_cases hp : Pos (boxG x4) (boxA x3 n) ∧ Live h n
  · rw [pay57_at _ _ _ _ _ _ _ n (boxA x3 n) (boxG x4 (arg (boxG x4) (boxA x3 n))) (fun k => x6 (ix3 0 k n)) (w6_at x3 n) (w7_at x3 n)
      (w10_at x3 n) (w13_at x3 n) (fun k => ?_) (fun k => rfl) k]
    simp only [h5]
    exact picked x3 n x4 h hh (fun g => boxG x4 g k) hp
  · rw [ind_false hp, mul_zero, mul_zero]
end

section
variable (x3 : Vec Ideal S4x24576 .f32) (x7 : Vec Ideal S1x32x5 .f32) (x8 : Vec Ideal S1x4x24576 .f32) (x9 : Vec Ideal S1x1x24576 .f32)
  (y6 y7 y36 y38 y39 y40 y41 : FVec Ideal S1x24576 .f32) (u : Vec Ideal S32x1 .f32) (n : Fin 24576)
theorem pay34_at (k : Fin 4) : k0_pay34 (F := Ideal) x8 (ix2 k n) = x8 (ix3 0 k n) := by
  unfold k0_pay34
  pointwise
theorem pay29_at (g : Fin 32) (k : Fin 5) : k0_pay29 (F := Ideal) x7 (ix2 g k) = x7 (ix3 0 g k) := by
  unfold k0_pay29
  pointwise
theorem pay35_at : k0_pay35 (F := Ideal) y6 y7 x8 (ix2 0 n) = (y7 (ix2 0 n) + x8 (ix3 0 0 n) * lit 0x3DCCCCCD#32 * y6 (ix2 0 n) : EReal) := by
  unfold k0_pay35
  pointwise
  rw [pay34_at]
theorem pay36_at : k0_pay36 (F := Ideal) y6 y7 x8 (ix2 0 n) = (y7 (ix2 0 n) + x8 (ix3 0 1 n) * lit 0x3DCCCCCD#32 * y6 (ix2 0 n) : EReal) := by
  unfold k0_pay36
  pointwise
  rw [pay34_at]
theorem pay37_at : k0_pay37 (F := Ideal) y6 x8 (ix2 0 n) = (Ideal.exp (x8 (ix3 0 2 n) * lit 0x3E4CCCCD#32 : EReal) * y6 (ix2 0 n) : EReal) := by
  unfold k0_pay37
  pointwise
  rw [pay34_at]
theorem pay38_at : k0_pay38 (F := Ideal) y6 x8 (ix2 0 n) = (Ideal.exp (x8 (ix3 0 3 n) * lit 0x3E4CCCCD#32 : EReal) * y6 (ix2 0 n) : EReal) := by
  unfold k0_pay38
  pointwise
  rw [pay34_at]
theorem pay39_at : k0_pay39 (F := Ideal) y6 y7 x8 (ix2 0 n)
    = max (k0_pay35 (F := Ideal) y6 y7 x8 (ix2 0 n) - lit 0x3F000000#32 * k0_pay37 (F := Ideal) y6 x8 (ix2 0 n) : EReal) 0 := by
  unfold k0_pay39
  pointwise
theorem pay40_at : k0_pay40 (F := Ideal) y6 y7 x8 (ix2 0 n)
    = max (k0_pay36 (F := Ideal) y6 y7 x8 (ix2 0 n) - lit 0x3F000000#32 * k0_pay38 (F := Ideal) y6 x8 (ix2 0 n) : EReal) 0 := by
  unfold k0_pay40
  pointwise
theorem pay41_at : k0_pay41 (F := Ideal) y6 y7 x8 (ix2 0 n)
    = min (k0_pay35 (F := Ideal) y6 y7 x8 (ix2 0 n) + lit 0x3F000000#32 * k0_pay37 (F := Ideal) y6 x8 (ix2 0 n) : EReal) (lit 0x44000000#32) := by
  unfold k0_pay41
  pointwise
theorem pay43_at : k0_pay43 (F := Ideal) x9 (ix2 0 n) = x9 (ix3 0 0 n) := by
  unfold k0_pay43
  pointwise
theorem pay42_at (b : Box) (h0 : y39 (ix2 0 n) = b 0) (h1 : y40 (ix2 0 n) = b 1) (h2 : y41 (ix2 0 n) = b 2)
    (h3 : min (y36 (ix2 0 n) + lit 0x3F000000#32 * y38 (ix2 0 n) : EReal) (lit 0x44000000#32) = b 3) (U : Fin 32 → Prop)
    (hu : ∀ g, (0 : EReal) < u (ix2 g 0) ↔ U g) :
    k0_pay42 (F := Ideal) (k0_pay30 x7) (k0_pay31 x7) (k0_pay32 x7) (k0_pay33 x7) y36 y38 y39 y40 y41 (Scalar.ofBits .f32 0x3F000000#32) u (ix2 0 n)
      = usedBest (boxG x7) U b := by
  unfold k0_pay42 k0_pay30 k0_pay31 k0_pay32 k0_pay33
  pointwise
  unfold usedBest peak
  refine congrArg (fun f => Finset.univ.fold max (lit 0xFF800000#32) f) (funext fun g => ?_)
  simp only [pay29_at, h0, h1, h2, h3]
  by_cases q : U g
  · rw [if_pos q, if_pos ((hu g).2 q)]
    rfl
  · rw [if_neg q, if_neg fun q' => q ((hu g).1 q')]
theorem pay12_at (y43 y42 f : FVec Ideal S1x24576 .f32) (c : Vec Ideal S1x1 .f32) : k0_pay12 (F := Ideal) y42 y43 f c (ix2 0 0)
    = (c (ix2 0 0) : EReal) + ∑ n, f (ix2 0 n) * -(Ideal.log (clip (1 - max (y43 (ix2 0 n) - y42 (ix2 0 n) : EReal) (-(y43 (ix2 0 n) - y42 (ix2 0 n)))))) := by
  unfold k0_pay12
  pointwise
  rw [Fin.sum_univ_one]
  simp only [zero_sub, abs_eq]
  rfl
/-- The location sum of a block. -/
theorem locStep_at (p : Vec Ideal S1x24576 .f32) (c : Vec Ideal S1x1 .f32) (U : Fin 32 → Prop) (hu : ∀ g, (0 : EReal) < u (ix2 g 0) ↔ U g) :
    locStep (F := Ideal) x3 x7 x8 x9 u p c (ix2 0 0) = (c (ix2 0 0) : EReal)
      + ∑ n, p (ix2 0 n) * locTerm (boxG x7) U (boxA x3 n) (fun k => x8 (ix3 0 k n)) (x9 (ix3 0 0 n)) := by
  rw [locStep, pay12_at]
  refine congrArg _ (Finset.sum_congr rfl fun n _ => congrArg (p (ix2 0 n) * ·) ?_)
  rw [pay42_at x7 _ _ _ _ _ u n (move (boxA x3 n) (fun k => x8 (ix3 0 k n))) ?_ ?_ ?_ ?_ U hu, pay43_at]
  · rfl
  · rw [pay39_at, pay35_at, pay37_at, w6_at, w10_at]
    rfl
  · rw [pay40_at, pay36_at, pay38_at, w7_at, w13_at]
    rfl
  · rw [pay41_at, pay35_at, pay37_at, w6_at, w10_at]
    rfl
  · rw [pay36_at, pay38_at, w7_at, w13_at]
    rfl
end
end Cert.KernelIdeal.Hand

end
-- ==== Proof.ICls.lean ====
module

public import proofs.«01_k».proof.Proof.IReg

@[expose] public section

set_option maxRecDepth 16384
set_option maxHeartbeats 2000000

noncomputable section

namespace Cert.KernelIdeal.Hand

open Idealize.ShloMosaic Idealize.SL.Sem
open Cert.KernelIdeal Cert.KernelIdeal.Gen Cert.Spec

section
variable (v : BitVec 32) (x : Vec Ideal S1x24576x80 .f32) (n : Fin 24576) (k : Fin 80)
theorem pay61_at : k0_pay61 (F := Ideal) v x (ix2 n k) = Scalar.select (IntOp.cmpi .slt (IntOp.addi (Scalar.muli v 24576#32) (BitVec.ofNat 32 n.val)) 49104#32)
    (x (ix3 0 n k)) (lit 0x3F000000#32) := by
  unfold k0_pay61
  pointwise
theorem pay62_at : k0_pay62 (F := Ideal) v x (ix2 n k) = f0 (k0_pay61 (F := Ideal) v x (ix2 n k)) := by
  unfold k0_pay62
  pointwise
  show lit 0xBF400000#32 * _ * _ = _
  rw [lit_neg_three_quarters]
  unfold f0
  simp only [neg_mul, mul_neg]
theorem pay63_at (l : FVec Ideal S32x5 .f32) (g : Fin 32) : k0_pay63 (F := Ideal) v l x (ix2 g n)
    = ∑ k : Fin 80, (ind (BitVec.ofNat 32 k.val = Ideal.fptosi 32 (l (ix2 g 4))) * k0_pay61 (F := Ideal) v x (ix2 n k) : EReal) := by
  unfold k0_pay63
  pointwise
  simp only [cmpi_eq, signed_ind]
  rfl
theorem pay44_at (x4 : Vec Ideal S1x32x5 .f32) (g : Fin 32) (k : Fin 5) : k0_pay44 (F := Ideal) x4 (ix2 g k) = x4 (ix3 0 g k) := by
  unfold k0_pay44
  pointwise
theorem pay64_at (p w : FVec Ideal S1x24576 .f32) (a l : FVec Ideal S32x24576 .f32) (f : FVec Ideal S24576x80 .f32) (u : Vec Ideal S1x1 .f32) :
    k0_pay14 (F := Ideal) (k0_pay64 p w a f l u) (ix2 0 0) = (u (ix2 0 0) : EReal)
      + ((∑ k : Fin 80, ∑ n, w (ix2 0 n) * f (ix2 n k)) + ∑ n, p (ix2 0 n)
        * (f1 (clip (∑ g : Fin 32, a (ix2 g n) * l (ix2 g n))) - f0 (clip (∑ g : Fin 32, a (ix2 g n) * l (ix2 g n))))) := by
  unfold k0_pay14 k0_pay64
  pointwise
  simp only [Fin.sum_univ_one, zero_sub, mul_assoc]
  unfold f0 f1 clip
  simp only [mul_assoc]
end

theorem f0_real {x : EReal} (h1 : lit 0x38D1B717#32 ≤ x) (h2 : x ≤ lit 0x3F7FF972#32) : ∃ r : ℝ, f0 x = r := by
  obtain ⟨r, rfl, h0, h1⟩ := real_of_range h1 h2
  have e : (1 : EReal) - (r : EReal) = ((1 - r : ℝ) : EReal) := by rw [EReal.coe_sub]; rfl
  have e' : Ideal.log ((1 - r : ℝ) : EReal) = ((Real.log (1 - r) : ℝ) : EReal) := if_neg (by linarith)
  unfold f0
  rw [e, e', lit_three_quarters, ← EReal.coe_neg, ← EReal.coe_mul, ← EReal.coe_mul, ← EReal.coe_mul]
  exact ⟨_, rfl⟩
theorem ofNat_fin {N : ℕ} (hN : N < 2 ^ 32) (j k : Fin N) (q : BitVec.ofNat 32 j.val = BitVec.ofNat 32 k.val) : j = k := by
  have := congrArg BitVec.toNat q
  simp only [BitVec.toNat_ofNat] at this
  have h1 := j.isLt
  have h2 := k.isLt
  rw [Nat.mod_eq_of_lt (by omega), Nat.mod_eq_of_lt (by omega)] at this
  exact Fin.ext this

/-- One anchor's focal losses: every class's as if not its own, then its own class's put right. -/
theorem put_right (x : Fin 80 → EReal) (hx : ∀ k, lit 0x38D1B717#32 ≤ x k ∧ x k ≤ lit 0x3F7FF972#32) (k0 : Fin 80) :
    (∑ k, f0 (x k)) + (f1 (x k0) - f0 (x k0)) = ∑ k : Fin 80, if BitVec.ofNat 32 k0.val = BitVec.ofNat 32 k.val then f1 (x k) else f0 (x k) := by
  obtain ⟨r, hr⟩ := f0_real (hx k0).1 (hx k0).2
  have e1 := Finset.add_sum_erase Finset.univ (fun k => f0 (x k)) (Finset.mem_univ k0)
  have e2 := Finset.add_sum_erase Finset.univ (fun k : Fin 80 => if BitVec.ofNat 32 k0.val = BitVec.ofNat 32 k.val then f1 (x k) else f0 (x k)) (Finset.mem_univ k0)
  have e3 : (∑ k ∈ Finset.univ.erase k0, if BitVec.ofNat 32 k0.val = BitVec.ofNat 32 k.val then f1 (x k) else f0 (x k))
      = ∑ k ∈ Finset.univ.erase k0, f0 (x k) :=
    Finset.sum_congr rfl fun k hk => if_neg fun q => (Finset.mem_erase.1 hk).1 (ofNat_fin (by norm_num) _ _ q).symm
  rw [← e1, ← e2, e3, if_pos rfl, hr, sub_eq_add_neg, ← EReal.coe_neg]
  have e : ((r : ℝ) : EReal) + ((-r : ℝ) : EReal) = 0 := by rw [← EReal.coe_add]; simp
  calc _ = (((r : ℝ) : EReal) + ((-r : ℝ) : EReal)) + (f1 (x k0) + ∑ k ∈ Finset.univ.erase k0, f0 (x k)) := by ac_rfl
    _ = _ := by rw [e, zero_add]

section
variable (x2 : Vec Ideal S1x24576x80 .f32) (x3 : Vec Ideal S4x24576 .f32) (x4 : Vec Ideal S1x32x5 .f32) (h : ℕ) (hh : h < 2)
/-- The labels of an image. -/
def labB (g : Fin 32) : BitVec 32 := Ideal.fptosi 32 (x4 (ix3 0 g 4))
include hh
theorem pay61_live (n : Fin 24576) (k : Fin 80) (hl : Live h n) : k0_pay61 (F := Ideal) (BitVec.ofNat 32 h) x2 (ix2 n k) = x2 (ix3 0 n k) := by
  rw [pay61_at, live_bit h hh, select_true hl]
/-- The classification sum of a block. -/
theorem clsStep_at (u : Vec Ideal S1x1 .f32)
    (hx : ∀ n, Live h n → ∀ k, lit 0x38D1B717#32 ≤ (x2 (ix3 0 n k) : EReal) ∧ (x2 (ix3 0 n k) : EReal) ≤ lit 0x3F7FF972#32)
    (hl : ∀ g, ∃ k : Fin 80, labB x4 g = BitVec.ofNat 32 k.val) :
    clsStep (F := Ideal) (BitVec.ofNat 32 h) x2 x3 x4 u (ix2 0 0) = (u (ix2 0 0) : EReal)
      + ∑ n, ind (Live h n) * ∑ k : Fin 80, clsTerm (boxG x4) (labB x4) (boxA x3 n) (x2 (ix3 0 n k)) k := by
  rw [clsStep, pay64_at]
  rw [Finset.sum_comm, ← Finset.sum_add_distrib]
  refine congrArg _ (Finset.sum_congr rfl fun n _ => ?_)
  rw [posf_at x3 x4 h hh, care_at x3 x4 h hh]
  by_cases hn : Live h n
  swap
  · rw [ind_false fun q : _ ∧ _ => hn q.2, ind_false fun q : _ ∧ _ => hn q.2, ind_false hn]
    simp only [zero_mul, Finset.sum_const_zero, add_zero]
  rw [ind_true hn, one_mul]
  simp only [pay62_at, pay61_live x2 h hh n _ hn]
  unfold clsTerm
  by_cases hp : Pos (boxG x4) (boxA x3 n)
  · rw [ind_true (p := (_ ∨ _) ∧ _) ⟨Or.inl hp, hn⟩, ind_true (p := _ ∧ _) ⟨hp, hn⟩]
    simp only [one_mul, if_pos hp]
    obtain ⟨k0, hk⟩ := hl (arg (boxG x4) (boxA x3 n))
    rw [hk, ← put_right (fun k => x2 (ix3 0 n k)) (hx n hn) k0]
    have e : (∑ g : Fin 32, (asg (F := Ideal) (BitVec.ofNat 32 h) x3 x4 (ix2 g n)
        * k0_pay63 (F := Ideal) (BitVec.ofNat 32 h) (k0_pay44 x4) x2 (ix2 g n) : EReal)) = x2 (ix3 0 n k0) := by
      rw [Finset.sum_congr rfl fun g _ => mul_comm _ _, picked x3 n x4 h hh _ ⟨hp, hn⟩, pay63_at]
      simp only [pay61_live x2 h hh n _ hn]
      rw [Finset.sum_eq_single k0]
      · rw [ind_true, one_mul]
        rw [pay44_at]
        exact hk.symm
      · intro k _ hne
        rw [ind_false, zero_mul]
        rw [pay44_at]
        exact fun q => hne (ofNat_fin (by norm_num) _ _ (q.trans hk))
      · exact fun q => absurd (Finset.mem_univ _) q
    rw [e, clip_of_range (hx n hn k0).1 (hx n hn k0).2]
  · rw [ind_false (p := _ ∧ _) fun q => hp q.1, zero_mul, add_zero]
    simp only [if_neg hp]
    refine Finset.sum_congr rfl fun k _ => congrArg (· * _) (congrArg ind (propext ⟨fun q => q.1.resolve_left hp, fun q => ⟨Or.inr q, hn⟩⟩))
end
end Cert.KernelIdeal.Hand

end
-- ==== Proof.IWin.lean ====
module

public import proofs.«01_k».proof.Proof.ICls
public import Idealize.ShloMosaic.Lib.StableHlo.ReadAt
public import Idealize.ShloMosaic.Lib.Pipeline.ValueKit

@[expose] public section

set_option maxRecDepth 16384
set_option maxHeartbeats 2000000

noncomputable section

namespace Cert.KernelIdeal.Hand

open Idealize.ShloMosaic Idealize.ShloMosaic.TcCoe Idealize.SL.Sem
open Cert.KernelIdeal Cert.KernelIdeal.Gen Cert.Spec
open Idealize.ShloMosaic.Pipeline (Window Grid)
open StableHlo

/-- A fetched buffer's element is its array's. -/
theorem fill_at {G : Grid} (w : Window sig G) (t : Fin G.N) (d : w.block.Idx → Elt Ideal w.elt) (A) (j : w.block.Idx) (i : w.shape.Idx)
    (hk : w.kind = .blocked) (hm : ∀ a, (j a).val < w.xsize (G.coords t) a) (hi : ∀ a, (i a).val = w.index t a * w.size a + (j a).val) :
    w.fill (G.coords t) d ((w.blk t).view.read (Elt Ideal) A) j = w.arr.view.read (Elt Ideal) A i := by
  unfold Window.fill
  rw [dif_pos ((w.moved_iff _ _).2 hm)]
  show w.arr.view.read (Elt Ideal) A _ = _
  refine congrArg _ (funext fun a => Fin.ext ?_)
  rw [hi]
  exact Window.rect_emb_val w t _ a hk

/-! ## Where the windows' blocks begin -/

theorem ind0 : ∀ t : Fin grid0.N, t.val < 16 → win0_0.index t 0 = t.val / 2 ∧ win0_0.index t 1 = t.val % 2 ∧ win0_0.index t 2 = 0 := by decide +kernel
theorem ind1 : ∀ t : Fin grid0.N, win0_1.index t 0 = 0 ∧ win0_1.index t 1 = t.val % 2 := by decide +kernel
theorem ind2 : ∀ t : Fin grid0.N, t.val < 16 → win0_2.index t 0 = t.val / 2 ∧ win0_2.index t 1 = 0 ∧ win0_2.index t 2 = 0 := by decide +kernel
theorem ind3 : ∀ t : Fin grid0.N, t.val < 16 → win0_3.index t 0 = t.val / 2 ∧ win0_3.index t 1 = 0 ∧ win0_3.index t 2 = 0 := by decide +kernel
theorem ind4 : ∀ t : Fin grid0.N, t.val < 16 → win0_4.index t 0 = t.val / 2 ∧ win0_4.index t 1 = 0 ∧ win0_4.index t 2 = t.val % 2 := by decide +kernel
theorem ind5 : ∀ t : Fin grid0.N, 2 ≤ t.val → win0_5.index t 0 = t.val / 2 - 1 ∧ win0_5.index t 1 = 0 ∧ win0_5.index t 2 = 0 := by decide +kernel
theorem ind6 : ∀ t : Fin grid0.N, 2 ≤ t.val → win0_6.index t 0 = t.val / 2 - 1 ∧ win0_6.index t 1 = 0 ∧ win0_6.index t 2 = t.val % 2 := by decide +kernel
theorem ind7 : ∀ t : Fin grid0.N, 2 ≤ t.val → win0_7.index t 0 = t.val / 2 - 1 ∧ win0_7.index t 1 = 0 ∧ win0_7.index t 2 = t.val % 2 := by decide +kernel

/-! ## The arrays the host operations prepare -/

abbrev pre : List (HloOp τ sig (Elt Ideal)) := List.flatten [hostOps0, hostOps0_1, hostOps0_2, hostOps0_3, hostOps0_4, hostOps0_5, hostOps0_6]
section
variable (W : Valuation τ sig (Elt Ideal)) (b : Fin 8) (n : Fin 49104) (i : Fin 49152) (hi : i.val = n.val)
theorem v7_at (k : Fin 5) (g : Fin 32) : (after pre W (Proc.devRef .tc main_v7) : FVec Ideal S8x5x32 .f32) (ix3 b k g)
    = (W (Proc.devRef .tc main_arg4) : FVec Ideal S8x32x5 .f32) (ix3 b g k) := by
  after_reads_at
include hi
theorem v4_at (k : Fin 4) : (after pre W (Proc.devRef .tc main_v4) : FVec Ideal S8x4x49152 .f32) (ix3 b k i)
    = rows (W (Proc.devRef .tc main_arg1) : FVec Ideal S8x49104x4 .f32) b n k := by
  after_reads_at
  rw [dif_pos (by rw [hi]; exact n.isLt), show (⟨i.val, by rw [hi]; exact n.isLt⟩ : Fin 49104) = n from Fin.ext hi]
  rfl
theorem v6_at : (after pre W (Proc.devRef .tc main_v6) : FVec Ideal S8x1x49152 .f32) (ix3 b 0 i)
    = locs (W (Proc.devRef .tc main_arg2) : FVec Ideal S8x49104x1 .f32) b n := by
  after_reads_at
  rw [dif_pos (by rw [hi]; exact n.isLt), show (⟨i.val, by rw [hi]; exact n.isLt⟩ : Fin 49104) = n from Fin.ext hi]
  rfl
theorem v2_at (k : Fin 4) : (after pre W (Proc.devRef .tc main_v2) : FVec Ideal S4x49152 .f32) (ix2 k i)
    = ancs (W (Proc.devRef .tc main_arg3) : FVec Ideal S1x49104x4 .f32) n k := by
  after_reads_at
  rw [dif_neg (Nat.not_lt_zero _), dif_pos (by rw [hi]; exact n.isLt)]
  show (upto pre W 16 (Proc.devRef .tc main_call0_v6) : FVec Ideal S4x49104 .f32) (ix2 k ⟨i.val, _⟩) = _
  rw [show (⟨i.val, by rw [hi]; exact n.isLt⟩ : Fin 49104) = n from Fin.ext hi]
  after_reads_at
  rw [dif_neg (Nat.not_lt_zero _)]
  show (upto pre W 9 (Proc.devRef .tc main_v1) : FVec Ideal S4x49104 .f32) (ix2 k n) = _
  after_reads_at
  rfl
end

/-! ## The windows' contents -/

section
variable (m : (ℓ : Loc nD τ sig) → Buf (Elt Ideal) ℓ) (c : Dev nD)

/-- The class scores. -/
abbrev B0 : FVec Ideal S8x49104x80 .f32 := m (c, Proc.devRef .tc main_arg0)
/-- The regressions. -/
abbrev B1 : FVec Ideal S8x49104x4 .f32 := m (c, Proc.devRef .tc main_arg1)
/-- The location scores. -/
abbrev B2 : FVec Ideal S8x49104x1 .f32 := m (c, Proc.devRef .tc main_arg2)
/-- The anchors. -/
abbrev B3 : FVec Ideal S1x49104x4 .f32 := m (c, Proc.devRef .tc main_arg3)
/-- The annotations. -/
abbrev B4 : FVec Ideal S8x32x5 .f32 := m (c, Proc.devRef .tc main_arg4)

theorem pt_of (p : ℕ) (hp : p < 18) : (pt p).val = p := Nat.mod_eq_of_lt hp

/-- The anchor of the array that anchor `n` of half `h` is. -/
def live (h : ℕ) (n : Fin 24576) (hl : Live h n) : Fin 49104 := ⟨h * 24576 + n.val, hl⟩
/-- The same in the array with its extra anchors. -/
def slot (h : ℕ) (hh : h < 2) (n : Fin 24576) : Fin 49152 := ⟨h * 24576 + n.val, by omega⟩

variable (b : Fin 8) (h : ℕ) (hh : h < 2) (n : Fin 24576) (hl : Live h n)
include hh hl

theorem X0_at (k : Fin 80) : X0 (F := Ideal) m c (2 * b.val + h) (ix3 0 n k) = scores (B0 m c) b (live h n hl) k := by
  have hb := b.isLt
  have hp : (pt (2 * b.val + h)).val = 2 * b.val + h := pt_of _ (by omega)
  obtain ⟨i0, i1, i2⟩ := ind0 (pt (2 * b.val + h)) (by omega)
  refine (fill_at win0_0 (pt (2 * b.val + h)) (junk 0) (V m c main_arg0) (ix3 0 n k) (ix3 b (live h n hl) k) rfl (fun a => ?_) fun a => ?_).trans ?_
  · match a with
    | ⟨0, _⟩ => exact lt_of_lt_of_eq Nat.one_pos (xs0 _).symm
    | ⟨1, _⟩ => exact moved0 _ (by omega) _ n.isLt (by rw [hp, show (2 * b.val + h) % 2 = h by omega]; exact hl)
    | ⟨2, _⟩ => exact lt_of_lt_of_eq k.isLt (xs2 _).symm
  · match a with
    | ⟨0, _⟩ => exact (by rw [hp] at i0; omega : b.val = win0_0.index (pt (2 * b.val + h)) 0 * 1 + 0)
    | ⟨1, _⟩ => exact (by rw [hp] at i1; rw [i1]; omega : h * 24576 + n.val = win0_0.index (pt (2 * b.val + h)) 1 * 24576 + n.val)
    | ⟨2, _⟩ => exact (by rw [i2]; omega : k.val = win0_0.index (pt (2 * b.val + h)) 2 * 80 + k.val)
  · exact congrFun (V_main_arg0 m c) _
omit hl in
theorem X1_slot (p : ℕ) (hp : p < 18) (hph : p % 2 = h) (k : Fin 4) :
    X1 (F := Ideal) m c p (ix2 k n) = (V m c main_v2 : FVec Ideal S4x49152 .f32) (ix2 k (slot h hh n)) := by
  have hp : (pt p).val = p := pt_of _ hp
  obtain ⟨i0, i1⟩ := ind1 (pt p)
  refine fill_at win0_1 (pt p) (junk 1) (V m c main_v2) (ix2 k n) (ix2 k (slot h hh n)) rfl (fun a => ?_) fun a => ?_
  · match a with
    | ⟨0, _⟩ => exact k.isLt
    | ⟨1, _⟩ => exact n.isLt
  · match a with
    | ⟨0, _⟩ => exact (by rw [i0]; omega : k.val = win0_1.index (pt p) 0 * 4 + k.val)
    | ⟨1, _⟩ => exact (by rw [i1, hp, hph] : h * 24576 + n.val = win0_1.index (pt p) 1 * 24576 + n.val)
theorem X1_at (p : ℕ) (hp : p < 18) (hph : p % 2 = h) : boxA (X1 (F := Ideal) m c p) n = ancs (B3 m c) (live h n hl) :=
  funext fun k => (X1_slot m c h hh n p hp hph k).trans (v2_at (fun b => m (c, b)) (live h n hl) (slot h hh n) rfl k)
theorem X4_at (k : Fin 4) : X4 (F := Ideal) m c (2 * b.val + h) (ix3 0 k n) = rows (B1 m c) b (live h n hl) k := by
  have hb := b.isLt
  have hp : (pt (2 * b.val + h)).val = 2 * b.val + h := pt_of _ (by omega)
  obtain ⟨i0, i1, i2⟩ := ind4 (pt (2 * b.val + h)) (by omega)
  refine (fill_at win0_4 (pt (2 * b.val + h)) (junk 4) (V m c main_v4) (ix3 0 k n) (ix3 b k (slot h hh n)) rfl (fun a => ?_) fun a => ?_).trans ?_
  · match a with
    | ⟨0, _⟩ => exact Nat.one_pos
    | ⟨1, _⟩ => exact k.isLt
    | ⟨2, _⟩ => exact n.isLt
  · match a with
    | ⟨0, _⟩ => exact (by rw [hp] at i0; omega : b.val = win0_4.index (pt (2 * b.val + h)) 0 * 1 + 0)
    | ⟨1, _⟩ => exact (by rw [i1]; omega : k.val = win0_4.index (pt (2 * b.val + h)) 1 * 4 + k.val)
    | ⟨2, _⟩ => exact (by rw [hp] at i2; rw [i2]; omega : h * 24576 + n.val = win0_4.index (pt (2 * b.val + h)) 2 * 24576 + n.val)
  · exact v4_at (fun b => m (c, b)) b (live h n hl) (slot h hh n) rfl k
theorem X6_at (k : Fin 4) : X6 (F := Ideal) m c (2 * b.val + 2 + h) (ix3 0 k n) = rows (B1 m c) b (live h n hl) k := by
  have hb := b.isLt
  have hp : (pt (2 * b.val + 2 + h)).val = 2 * b.val + 2 + h := pt_of _ (by omega)
  obtain ⟨i0, i1, i2⟩ := ind6 (pt (2 * b.val + 2 + h)) (by omega)
  refine (fill_at win0_6 (pt (2 * b.val + 2 + h)) (junk 6) (V m c main_v4) (ix3 0 k n) (ix3 b k (slot h hh n)) rfl (fun a => ?_) fun a => ?_).trans ?_
  · match a with
    | ⟨0, _⟩ => exact Nat.one_pos
    | ⟨1, _⟩ => exact k.isLt
    | ⟨2, _⟩ => exact n.isLt
  · match a with
    | ⟨0, _⟩ => exact (by rw [hp] at i0; omega : b.val = win0_6.index (pt (2 * b.val + 2 + h)) 0 * 1 + 0)
    | ⟨1, _⟩ => exact (by rw [i1]; omega : k.val = win0_6.index (pt (2 * b.val + 2 + h)) 1 * 4 + k.val)
    | ⟨2, _⟩ => exact (by rw [hp] at i2; rw [i2]; omega : h * 24576 + n.val = win0_6.index (pt (2 * b.val + 2 + h)) 2 * 24576 + n.val)
  · exact v4_at (fun b => m (c, b)) b (live h n hl) (slot h hh n) rfl k
theorem X7_at : X7 (F := Ideal) m c (2 * b.val + 2 + h) (ix3 0 0 n) = locs (B2 m c) b (live h n hl) := by
  have hb := b.isLt
  have hp : (pt (2 * b.val + 2 + h)).val = 2 * b.val + 2 + h := pt_of _ (by omega)
  obtain ⟨i0, i1, i2⟩ := ind7 (pt (2 * b.val + 2 + h)) (by omega)
  refine (fill_at win0_7 (pt (2 * b.val + 2 + h)) (junk 7) (V m c main_v6) (ix3 0 0 n) (ix3 b 0 (slot h hh n)) rfl (fun a => ?_) fun a => ?_).trans ?_
  · match a with
    | ⟨0, _⟩ => exact Nat.one_pos
    | ⟨1, _⟩ => exact Nat.one_pos
    | ⟨2, _⟩ => exact n.isLt
  · match a with
    | ⟨0, _⟩ => exact (by rw [hp] at i0; omega : b.val = win0_7.index (pt (2 * b.val + 2 + h)) 0 * 1 + 0)
    | ⟨1, _⟩ => exact (by rw [i1] : 0 = win0_7.index (pt (2 * b.val + 2 + h)) 1 * 1 + 0)
    | ⟨2, _⟩ => exact (by rw [hp] at i2; rw [i2]; omega : h * 24576 + n.val = win0_7.index (pt (2 * b.val + 2 + h)) 2 * 24576 + n.val)
  · exact v6_at (fun b => m (c, b)) b (live h n hl) (slot h hh n) rfl
omit hl
theorem X2_at (g : Fin 32) (k : Fin 5) : X2 (F := Ideal) m c (2 * b.val + h) (ix3 0 g k) = B4 m c (ix3 b g k) := by
  have hb := b.isLt
  have hp : (pt (2 * b.val + h)).val = 2 * b.val + h := pt_of _ (by omega)
  obtain ⟨i0, i1, i2⟩ := ind2 (pt (2 * b.val + h)) (by omega)
  refine (fill_at win0_2 (pt (2 * b.val + h)) (junk 2) (V m c main_arg4) (ix3 0 g k) (ix3 b g k) rfl (fun a => ?_) fun a => ?_).trans ?_
  · match a with
    | ⟨0, _⟩ => exact Nat.one_pos
    | ⟨1, _⟩ => exact g.isLt
    | ⟨2, _⟩ => exact k.isLt
  · match a with
    | ⟨0, _⟩ => exact (by rw [hp] at i0; omega : b.val = win0_2.index (pt (2 * b.val + h)) 0 * 1 + 0)
    | ⟨1, _⟩ => exact (by rw [i1]; omega : g.val = win0_2.index (pt (2 * b.val + h)) 1 * 32 + g.val)
    | ⟨2, _⟩ => exact (by rw [i2]; omega : k.val = win0_2.index (pt (2 * b.val + h)) 2 * 5 + k.val)
  · exact congrFun (V_main_arg4 m c) _
theorem X5_at (g : Fin 32) (k : Fin 5) : X5 (F := Ideal) m c (2 * b.val + 2 + h) (ix3 0 g k) = B4 m c (ix3 b g k) := by
  have hb := b.isLt
  have hp : (pt (2 * b.val + 2 + h)).val = 2 * b.val + 2 + h := pt_of _ (by omega)
  obtain ⟨i0, i1, i2⟩ := ind5 (pt (2 * b.val + 2 + h)) (by omega)
  refine (fill_at win0_5 (pt (2 * b.val + 2 + h)) (junk 5) (V m c main_arg4) (ix3 0 g k) (ix3 b g k) rfl (fun a => ?_) fun a => ?_).trans ?_
  · match a with
    | ⟨0, _⟩ => exact Nat.one_pos
    | ⟨1, _⟩ => exact g.isLt
    | ⟨2, _⟩ => exact k.isLt
  · match a with
    | ⟨0, _⟩ => exact (by rw [hp] at i0; omega : b.val = win0_5.index (pt (2 * b.val + 2 + h)) 0 * 1 + 0)
    | ⟨1, _⟩ => exact (by rw [i1]; omega : g.val = win0_5.index (pt (2 * b.val + 2 + h)) 1 * 32 + g.val)
    | ⟨2, _⟩ => exact (by rw [i2]; omega : k.val = win0_5.index (pt (2 * b.val + 2 + h)) 2 * 5 + k.val)
  · exact congrFun (V_main_arg4 m c) _
theorem X3_at (k : Fin 4) (g : Fin 32) : rows4 (F := Ideal) (X3 (F := Ideal) m c (2 * b.val + h)) (ix3 0 k g) = gts (B4 m c) b g k := by
  have hb := b.isLt
  have hp : (pt (2 * b.val + h)).val = 2 * b.val + h := pt_of _ (by omega)
  obtain ⟨i0, i1, i2⟩ := ind3 (pt (2 * b.val + h)) (by omega)
  have e : ((Rect.unit (s := S1x5x32) ![0, 0, 0] S1x4x32.size inb_S1x5x32_S1x4x32_0_0_0).emb (ix3 0 k g) : S1x5x32.Idx)
      = ix3 0 (k.castLE (by decide) : Fin 5) g := funext fun a => Fin.ext (by
    match a with
    | ⟨0, _⟩ => rfl
    | ⟨1, _⟩ => exact (by omega : 0 + 1 * k.val = k.val)
    | ⟨2, _⟩ => exact (by omega : 0 + 1 * g.val = g.val))
  refine (congrArg (X3 (F := Ideal) m c (2 * b.val + h)) e).trans ?_
  refine (fill_at win0_3 (pt (2 * b.val + h)) (junk 3) (V m c main_v7) (ix3 0 (k.castLE (by decide) : Fin 5) g) (ix3 b (k.castLE (by decide) : Fin 5) g) rfl (fun a => ?_) fun a => ?_).trans ?_
  · match a with
    | ⟨0, _⟩ => exact Nat.one_pos
    | ⟨1, _⟩ => exact (k.castLE (by decide) : Fin 5).isLt
    | ⟨2, _⟩ => exact g.isLt
  · match a with
    | ⟨0, _⟩ => exact (by rw [hp] at i0; omega : b.val = win0_3.index (pt (2 * b.val + h)) 0 * 1 + 0)
    | ⟨1, _⟩ => exact (by rw [i1]; omega : k.val = win0_3.index (pt (2 * b.val + h)) 1 * 5 + k.val)
    | ⟨2, _⟩ => exact (by rw [i2]; omega : g.val = win0_3.index (pt (2 * b.val + h)) 2 * 32 + g.val)
  · exact v7_at (fun b => m (c, b)) b _ g
end
end Cert.KernelIdeal.Hand

end
-- ==== Proof.ISum.lean ====
module

public import proofs.«01_k».proof.Proof.IWin

@[expose] public section

set_option maxRecDepth 16384
set_option maxHeartbeats 2000000

noncomputable section

namespace Cert.KernelIdeal.Hand

open Idealize.ShloMosaic Idealize.SL.Sem
open Cert.KernelIdeal Cert.KernelIdeal.Gen Cert.Spec

/-! ## Two halves of the anchors make all of them -/

/-- A family over the anchors, nothing past them. -/
def past (F : Fin 49104 → EReal) (k : ℕ) : EReal := if q : k < 49104 then F ⟨k, q⟩ else 0
theorem halves (F : Fin 49104 → EReal) (T : ℕ → Fin 24576 → EReal) (h1 : ∀ h, h < 2 → ∀ n (hl : Live h n), T h n = F (live h n hl))
    (h0 : ∀ h, h < 2 → ∀ n, ¬ Live h n → T h n = 0) : (∑ n, T 0 n) + ∑ n, T 1 n = ∑ n, F n := by
  have e : ∀ h, h < 2 → ∀ n : Fin 24576, T h n = past F (h * 24576 + n.val) := fun h hh n => by
    unfold past
    by_cases hl : h * 24576 + n.val < 49104
    · rw [h1 h hh n hl, dif_pos hl]
      rfl
    · rw [h0 h hh n hl, dif_neg hl]
  have e2 : ∀ n : Fin 49104, F n = past F n.val := fun n => by
    unfold past
    rw [dif_pos n.isLt]
  rw [Finset.sum_congr rfl fun n _ => e 0 (by norm_num) n, Finset.sum_congr rfl fun n _ => e 1 (by norm_num) n, Finset.sum_congr rfl fun n _ => e2 n]
  rw [Fin.sum_univ_eq_sum_range (fun k => past F (0 * 24576 + k)) 24576, Fin.sum_univ_eq_sum_range (fun k => past F (1 * 24576 + k)) 24576,
    Fin.sum_univ_eq_sum_range (fun k => past F k) 49104]
  have a := Finset.sum_range_add (past F) 24576 24576
  have b := Finset.sum_range_add (past F) 49104 48
  have z : ∑ k ∈ Finset.range 48, past F (49104 + k) = 0 := Finset.sum_eq_zero fun k _ => dif_neg (by omega)
  rw [z, add_zero] at b
  simp only [zero_mul, zero_add, one_mul]
  exact a.symm.trans b

section
variable (p q a : Vec Ideal S1x1 .f32) (g : Fin 32)
theorem pay19_at : k0_pay19 (F := Ideal) (ix2 g 0) = (0 : EReal) := by
  unfold k0_pay19
  pointwise
theorem pay20_at : k0_pay20 (F := Ideal) (ix2 0 0) = (0 : EReal) := by
  unfold k0_pay20
  pointwise
theorem pay21_at : k0_pay21 (F := Ideal) (ix2 0 0) = (0 : EReal) := by
  unfold k0_pay21
  pointwise
theorem pay10_at : k0_pay10 (F := Ideal) (ix2 0 0) = (0 : EReal) := by
  unfold k0_pay10
  pointwise
theorem pay11_at : k0_pay11 (F := Ideal) (ix2 0 0) = (0 : EReal) := by
  unfold k0_pay11
  pointwise
theorem pay24_at : k0_pay24 (F := Ideal) (ix2 0 0) = (0 : EReal) := by
  unfold k0_pay24
  pointwise
theorem pay25_at : k0_pay25 (F := Ideal) (ix2 0 0) = (0 : EReal) := by
  unfold k0_pay25
  pointwise
theorem pay26_at : k0_pay26 (F := Ideal) (ix2 0 0) = (0 : EReal) := by
  unfold k0_pay26
  pointwise
theorem pay27_at : k0_pay27 (F := Ideal) p q a (ix2 0 0)
    = (a (ix2 0 0) + Ideal.div (q (ix2 0 0)) (max (p (ix2 0 0)) 1) * lit 0x3E000000#32 : EReal) := by
  unfold k0_pay27 k0_pay22
  pointwise
open Classical in
theorem pay28_at : k0_pay28 (F := Ideal) p q a (ix2 0 0)
    = (a (ix2 0 0) + (if (0 : EReal) < p (ix2 0 0) then Ideal.div (q (ix2 0 0)) (max (p (ix2 0 0)) 1 * lit 0x40800000#32) else 0) * lit 0x3E000000#32 : EReal) := by
  unfold k0_pay28 k0_pay22
  pointwise
open Classical in
theorem pay13_at : k0_pay13 (F := Ideal) (k0_pay23 p q) a (ix2 0 0)
    = (a (ix2 0 0) + (if (0 : EReal) < p (ix2 0 0) then Ideal.div (q (ix2 0 0)) (max (p (ix2 0 0)) 1) else 0) * lit 0x3E000000#32 : EReal) := by
  unfold k0_pay13 k0_pay23 k0_pay22
  pointwise
end

/-! ## One image's sums -/

section
variable (m : (ℓ : Loc nD τ sig) → Buf (Elt Ideal) ℓ) (c : Dev nD) (b : Fin 8)

abbrev GB : Fin 32 → Box := gts (B4 m c) b
abbrev AN : Fin 49104 → Box := ancs (B3 m c)

theorem boxes (h : ℕ) (hh : h < 2) : boxG (X2 (F := Ideal) m c (2 * b.val + h)) = GB m c b :=
  funext fun g => funext fun k => X2_at m c b h hh g _
theorem boxes' (h : ℕ) (hh : h < 2) : boxG (X5 (F := Ideal) m c (2 * b.val + 2 + h)) = GB m c b :=
  funext fun g => funext fun k => X5_at m c b h hh g _
theorem labels (h : ℕ) (hh : h < 2) : labB (X2 (F := Ideal) m c (2 * b.val + h)) = labs (B4 m c) b :=
  funext fun g => congrArg (Ideal.fptosi 32) (X2_at m c b h hh g 4)
theorem anchor (h : ℕ) (hh : h < 2) (n : Fin 24576) (hl : Live h n) : boxA (X1 (F := Ideal) m c (2 * b.val + h)) n = AN m c (live h n hl) :=
  X1_at m c h hh n hl _ (by have := b.isLt; omega) (by omega)
theorem anchor' (h : ℕ) (hh : h < 2) (n : Fin 24576) (hl : Live h n) : boxA (X1 (F := Ideal) m c (2 * b.val + 2 + h)) n = AN m c (live h n hl) :=
  X1_at m c h hh n hl _ (by have := b.isLt; omega) (by omega)

theorem used1_eq (b : ℕ) : used1 (F := Ideal) m c b = usedStep (BitVec.ofNat 32 0) (X1 m c (2 * b + 0)) (X2 m c (2 * b + 0)) (k0_pay19 (F := Ideal)) := by
  rw [used1, Nat.add_zero]
theorem npos1_eq (b : ℕ) : npos1 (F := Ideal) m c b = nposStep (BitVec.ofNat 32 0) (X1 m c (2 * b + 0)) (X2 m c (2 * b + 0)) (k0_pay20 (F := Ideal)) := by
  rw [npos1, Nat.add_zero]
theorem cls1_eq (b : ℕ) : cls1 (F := Ideal) m c b
    = clsStep (BitVec.ofNat 32 0) (X0 m c (2 * b + 0)) (X1 m c (2 * b + 0)) (X2 m c (2 * b + 0)) (k0_pay21 (F := Ideal)) := by
  rw [cls1, Nat.add_zero]
theorem reg1_eq (b : ℕ) : reg1 (F := Ideal) m c b
    = regStep (BitVec.ofNat 32 0) (X1 m c (2 * b + 0)) (X2 m c (2 * b + 0)) (X3 m c (2 * b + 0)) (X4 m c (2 * b + 0)) (k0_pay10 (F := Ideal)) := by
  rw [reg1, Nat.add_zero]
theorem loc1_eq (b : ℕ) : loc1 (F := Ideal) m c b
    = locStep (X1 m c (2 * b + 2 + 0)) (X5 m c (2 * b + 2 + 0)) (X6 m c (2 * b + 2 + 0)) (X7 m c (2 * b + 2 + 0)) (used2 m c b)
      (posRow (BitVec.ofNat 32 0) (X1 m c (2 * b + 0)) (X2 m c (2 * b + 0))) (k0_pay11 (F := Ideal)) := by
  rw [loc1, pos0, Nat.add_zero (2 * b + 2), Nat.add_zero (2 * b)]
theorem loc2_eq (b : ℕ) : loc2 (F := Ideal) m c b
    = locStep (X1 m c (2 * b + 2 + 1)) (X5 m c (2 * b + 2 + 1)) (X6 m c (2 * b + 2 + 1)) (X7 m c (2 * b + 2 + 1)) (used2 m c b)
      (posRow (BitVec.ofNat 32 1) (X1 m c (2 * b + 1)) (X2 m c (2 * b + 1))) (loc1 m c b) := by
  rw [loc2, pos1]

theorem used_sum (g : Fin 32) : used2 (F := Ideal) m c b.val (ix2 g 0) = ∑ n, ind (arg (GB m c b) (AN m c n) = g ∧ Pos (GB m c b) (AN m c n)) := by
  rw [used2, used1_eq, usedStep_at _ _ 1 (by norm_num), usedStep_at _ _ 0 (by norm_num), pay19_at, zero_add]
  refine halves (fun n => ind (arg (GB m c b) (AN m c n) = g ∧ Pos (GB m c b) (AN m c n)))
    (fun h n => ind (arg (boxG (X2 m c (2 * b.val + h))) (boxA (X1 m c (2 * b.val + h)) n) = g
      ∧ Pos (boxG (X2 m c (2 * b.val + h))) (boxA (X1 m c (2 * b.val + h)) n) ∧ Live h n)) ?_ ?_
  · intro h hh n hl
    rw [boxes m c b h hh, anchor m c b h hh n hl]
    exact congrArg ind (propext (and_congr_right' (and_iff_left hl)))
  · exact fun h hh n hl => ind_false fun q => hl q.2.2
theorem used_pos (g : Fin 32) : (0 : EReal) < used2 (F := Ideal) m c b.val (ix2 g 0) ↔ Used (GB m c b) (AN m c) g := by
  rw [used_sum, used_iff]
  simp only [ind_and]
theorem npos_sum : npos2 (F := Ideal) m c b.val (ix2 0 0) = npos (GB m c b) (AN m c) := by
  rw [npos2, npos1_eq, nposStep_at _ _ 1 (by norm_num), nposStep_at _ _ 0 (by norm_num), pay20_at, zero_add]
  refine halves (fun n => ind (Pos (GB m c b) (AN m c n)))
    (fun h n => ind (Pos (boxG (X2 m c (2 * b.val + h))) (boxA (X1 m c (2 * b.val + h)) n) ∧ Live h n)) ?_ ?_
  · intro h hh n hl
    rw [boxes m c b h hh, anchor m c b h hh n hl]
    exact congrArg ind (propext (and_iff_left hl))
  · exact fun h hh n hl => ind_false fun q => hl q.2
theorem reg_sum : reg2 (F := Ideal) m c b.val (ix2 0 0) = regSum (GB m c b) (AN m c) (rows (B1 m c) b) := by
  have h5 : ∀ h, h < 2 → ∀ k g, rows4 (F := Ideal) (X3 m c (2 * b.val + h)) (ix3 0 k g) = boxG (X2 m c (2 * b.val + h)) g k := fun h hh k g => by
    rw [boxes m c b h hh]
    exact X3_at m c b h hh k g
  rw [reg2, reg1_eq, regStep_at _ _ 1 (by norm_num) _ _ _ (h5 1 (by norm_num)), regStep_at _ _ 0 (by norm_num) _ _ _ (h5 0 (by norm_num)), pay10_at, zero_add, Finset.sum_comm, Finset.sum_comm (γ := Fin 4) (s := Finset.univ (α := Fin 4))]
  refine halves (fun n => ∑ k, ind (Pos (GB m c b) (AN m c n)) * smooth (gap (AN m c n) (GB m c b (arg (GB m c b) (AN m c n))) (rows (B1 m c) b n) k))
    (fun h n => ∑ k : Fin 4, smooth (gap (boxA (X1 m c (2 * b.val + h)) n) (boxG (X2 m c (2 * b.val + h)) (arg (boxG (X2 m c (2 * b.val + h))) (boxA (X1 m c (2 * b.val + h)) n)))
      (fun k => X4 m c (2 * b.val + h) (ix3 0 k n)) k) * ind (Pos (boxG (X2 m c (2 * b.val + h))) (boxA (X1 m c (2 * b.val + h)) n) ∧ Live h n)) ?_ ?_
  · intro h hh n hl
    rw [boxes m c b h hh, anchor m c b h hh n hl, show (fun k : Fin 4 => X4 (F := Ideal) m c (2 * b.val + h) (ix3 0 k n)) = rows (B1 m c) b (live h n hl) from
      funext fun k => X4_at m c b h hh n hl k]
    refine Finset.sum_congr rfl fun k _ => (mul_comm _ _).trans (congrArg (· * _) (congrArg ind (propext (and_iff_left hl))))
  · exact fun h hh n hl => Finset.sum_eq_zero fun k _ => by rw [ind_false fun q => hl q.2, mul_zero]
theorem cls_sum (hx : ∀ n k, lit 0x38D1B717#32 ≤ scores (B0 m c) b n k ∧ scores (B0 m c) b n k ≤ lit 0x3F7FF972#32)
    (hlab : ∀ g, ∃ k : Fin 80, labs (B4 m c) b g = BitVec.ofNat 32 k.val) :
    cls2 (F := Ideal) m c b.val (ix2 0 0) = clsSum (GB m c b) (labs (B4 m c) b) (AN m c) (scores (B0 m c) b) := by
  have hx' : ∀ h, h < 2 → ∀ n, Live h n → ∀ k, lit 0x38D1B717#32 ≤ (X0 m c (2 * b.val + h) (ix3 0 n k) : EReal)
      ∧ (X0 m c (2 * b.val + h) (ix3 0 n k) : EReal) ≤ lit 0x3F7FF972#32 := fun h hh n hl k => by
    rw [X0_at m c b h hh n hl k]
    exact hx _ _
  have hlab' : ∀ h, h < 2 → ∀ g, ∃ k : Fin 80, labB (X2 m c (2 * b.val + h)) g = BitVec.ofNat 32 k.val := fun h hh g => by
    rw [labels m c b h hh]
    exact hlab g
  rw [cls2, cls1_eq, clsStep_at _ _ _ 1 (by norm_num) _ (hx' 1 (by norm_num)) (hlab' 1 (by norm_num)), clsStep_at _ _ _ 0 (by norm_num) _ (hx' 0 (by norm_num)) (hlab' 0 (by norm_num)), pay21_at, zero_add]
  refine halves (fun n => ∑ k, clsTerm (GB m c b) (labs (B4 m c) b) (AN m c n) (scores (B0 m c) b n k) k)
    (fun h n => ind (Live h n) * ∑ k : Fin 80, clsTerm (boxG (X2 m c (2 * b.val + h))) (labB (X2 m c (2 * b.val + h)))
      (boxA (X1 m c (2 * b.val + h)) n) (X0 m c (2 * b.val + h) (ix3 0 n k)) k) ?_ ?_
  · intro h hh n hl
    rw [ind_true hl, one_mul, boxes m c b h hh, anchor m c b h hh n hl, labels m c b h hh]
    exact Finset.sum_congr rfl fun k _ => congrArg (fun x => clsTerm (GB m c b) (labs (B4 m c) b) (AN m c (live h n hl)) x k) (X0_at m c b h hh n hl k)
  · exact fun h hh n hl => by rw [ind_false hl, zero_mul]
theorem loc_sum : loc2 (F := Ideal) m c b.val (ix2 0 0) = locSum (GB m c b) (AN m c) (rows (B1 m c) b) (locs (B2 m c) b) := by
  rw [loc2_eq, loc1_eq, locStep_at _ _ _ _ _ _ _ _ (used_pos m c b), locStep_at _ _ _ _ _ _ _ _ (used_pos m c b), pay11_at, zero_add]
  refine halves (fun n => ind (Pos (GB m c b) (AN m c n)) * locTerm (GB m c b) (Used (GB m c b) (AN m c)) (AN m c n) (rows (B1 m c) b n) (locs (B2 m c) b n))
    (fun h n => posRow (F := Ideal) (BitVec.ofNat 32 h) (X1 m c (2 * b.val + h)) (X2 m c (2 * b.val + h)) (ix2 0 n)
      * locTerm (boxG (X5 m c (2 * b.val + 2 + h))) (Used (GB m c b) (AN m c)) (boxA (X1 m c (2 * b.val + 2 + h)) n)
        (fun k => X6 m c (2 * b.val + 2 + h) (ix3 0 k n)) (X7 m c (2 * b.val + 2 + h) (ix3 0 0 n))) ?_ ?_
  · intro h hh n hl
    rw [posRow_at _ _ h hh, boxes m c b h hh, boxes' m c b h hh, anchor m c b h hh n hl, anchor' m c b h hh n hl, X7_at m c b h hh n hl,
      show (fun k : Fin 4 => X6 (F := Ideal) m c (2 * b.val + 2 + h) (ix3 0 k n)) = rows (B1 m c) b (live h n hl) from
      funext fun k => X6_at m c b h hh n hl k]
    exact congrArg (· * _) (congrArg ind (propext (and_iff_left hl)))
  · exact fun h hh n hl => by rw [posRow_at _ _ h hh, ind_false fun q => hl q.2, zero_mul]
end
end Cert.KernelIdeal.Hand

end
-- ==== Proof.IEnd.lean ====
module

public import proofs.«01_k».proof.Proof.ISum

@[expose] public section

set_option maxRecDepth 16384
set_option maxHeartbeats 2000000

noncomputable section

namespace Cert.KernelIdeal.Hand

open Idealize.ShloMosaic Idealize.SL.Sem
open Cert.KernelIdeal Cert.KernelIdeal.Gen Cert.Spec

/-- Eight additions of an eighth each make the mean: the real 1/8 distributes over any sum. -/
theorem mean_of (o : ℕ → EReal) (f : Fin 8 → EReal) (h0 : o 0 = 0 + f 0 * lit 0x3E000000#32)
    (hs : ∀ k (hk : k + 1 < 8), o (k + 1) = o k + f ⟨k + 1, hk⟩ * lit 0x3E000000#32) : o 7 = mean f := by
  have d : ∀ x y : EReal, (x + y) * ((1 / 8 : ℝ) : EReal) = x * ((1 / 8 : ℝ) : EReal) + y * ((1 / 8 : ℝ) : EReal) := fun x y =>
    EReal.right_distrib_of_nonneg_of_ne_top (EReal.coe_nonneg.mpr (by norm_num)) (EReal.coe_ne_top _) x y
  have n : ((8 : ℝ) : EReal) ≠ 0 := fun h => absurd (EReal.coe_eq_zero.mp h) (by norm_num)
  rw [hs 6 (by norm_num), hs 5 (by norm_num), hs 4 (by norm_num), hs 3 (by norm_num), hs 2 (by norm_num), hs 1 (by norm_num), hs 0 (by norm_num), h0]
  unfold mean Ideal.div
  rw [lit_eight, lit_eighth, if_neg n, ← EReal.coe_inv, show ((8 : ℝ)⁻¹) = 1 / 8 by norm_num, Fin.sum_univ_eight]
  simp only [d, zero_add]
  rfl

section
variable (m : (ℓ : Loc nD τ sig) → Buf (Elt Ideal) ℓ) (c : Dev nD)

theorem oc_mean (hx : ∀ b n k, lit 0x38D1B717#32 ≤ scores (B0 m c) b n k ∧ scores (B0 m c) b n k ≤ lit 0x3F7FF972#32)
    (hlab : ∀ b g, ∃ k : Fin 80, labs (B4 m c) b g = BitVec.ofNat 32 k.val) :
    oc (F := Ideal) m c 7 (ix2 0 0) = mean fun b => clsLoss (GB m c b) (labs (B4 m c) b) (AN m c) (scores (B0 m c) b) := by
  have s : ∀ (b : Fin 8) (a : Vec Ideal S1x1 .f32), k0_pay27 (F := Ideal) (npos2 m c b.val) (cls2 m c b.val) a (ix2 0 0)
      = (a (ix2 0 0) + clsLoss (GB m c b) (labs (B4 m c) b) (AN m c) (scores (B0 m c) b) * lit 0x3E000000#32 : EReal) := fun b a => by
    rw [pay27_at, npos_sum, cls_sum m c b (hx b) (hlab b)]
    rfl
  refine mean_of (fun k => oc (F := Ideal) m c k (ix2 0 0)) _ ?_ fun k hk => s ⟨k + 1, hk⟩ _
  exact (s 0 _).trans (by rw [pay24_at])
theorem or_mean : or (F := Ideal) m c 7 (ix2 0 0) = mean fun b => regLoss (GB m c b) (AN m c) (rows (B1 m c) b) := by
  have s : ∀ (b : Fin 8) (a : Vec Ideal S1x1 .f32), k0_pay28 (F := Ideal) (npos2 m c b.val) (reg2 m c b.val) a (ix2 0 0)
      = (a (ix2 0 0) + regLoss (GB m c b) (AN m c) (rows (B1 m c) b) * lit 0x3E000000#32 : EReal) := fun b a => by
    rw [pay28_at, npos_sum, reg_sum]
    rfl
  refine mean_of (fun k => or (F := Ideal) m c k (ix2 0 0)) _ ?_ fun k hk => s ⟨k + 1, hk⟩ _
  exact (s 0 _).trans (by rw [pay25_at])
theorem ol_mean : ol (F := Ideal) m c 7 (ix2 0 0) = mean fun b => locLoss (GB m c b) (AN m c) (rows (B1 m c) b) (locs (B2 m c) b) := by
  have s : ∀ (b : Fin 8) (a : Vec Ideal S1x1 .f32), k0_pay13 (F := Ideal) (k0_pay23 (npos2 m c b.val) (loc2 m c b.val)) a (ix2 0 0)
      = (a (ix2 0 0) + locLoss (GB m c b) (AN m c) (rows (B1 m c) b) (locs (B2 m c) b) * lit 0x3E000000#32 : EReal) := fun b a => by
    rw [pay13_at, npos_sum, loc_sum]
    rfl
  refine mean_of (fun k => ol (F := Ideal) m c k (ix2 0 0)) _ ?_ fun k hk => s ⟨k + 1, hk⟩ _
  exact (s 0 _).trans (by rw [pay26_at])
end

end Cert.KernelIdeal.Hand

end
-- ==== Proof.RRun.lean ====
/- The reference as one list of host operations: each printed window and each called function is a
   straight line, and the program runs to the contents after the whole list. -/
module

public import proofs.«01_k».proof.ReferenceIdeal
public import proofs.«01_k».proof.Proof.Gen.ReferenceIdeal
public import Idealize.ShloMosaic.Lib.StableHlo.RunHlo
public import Idealize.ShloMosaic.Lib.StableHlo.RunRead

@[expose] public section

set_option maxRecDepth 16384
set_option maxHeartbeats 4000000

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

/-- A straight line that ends in an operation instead of a return. -/
theorem isSeq_last {nD : Nat} {τ : Topo} {sig : RefSig} {Val : EltTy → Type} {Λ : Labels} {op : HloOp τ sig Val} :
    IsSeq (nD := nD) (Λ := Λ) (hlo rfl op fun _ => .ret (⟨⟩ : PUnit)) [op] := rfl

/-- One straight line and then another. -/
theorem isSeq_then {nD : Nat} {τ : Topo} {sig : RefSig} {Val : EltTy → Type} {Λ : Labels}
    {p k : Prog (TpuEff nD τ sig Val Λ .tc) PUnit} {a b : List (HloOp τ sig Val)}
    (hp : IsSeq p a) (hk : IsSeq k b) : IsSeq (p >>= fun _ => k) (a ++ b) := by
  unfold IsSeq at hp hk
  subst hp hk
  induction a with
  | nil => rfl
  | cons op l ih => exact IsSeq.cons (ih)

/-- The operations of a straight line, found together with the proof that they are its operations. -/
abbrev Line (p : Prog (TpuEff nD τ sig (Elt F) (Pipeline.Sig Λ₀ (Fin 0) fun p => (pcfgs (F := F) p).Adm) .tc) PUnit) :=
  {ops : List (HloOp τ sig (Elt F)) // IsSeq p ops}

/-- A line from a proof that it is one. -/
def line {p : Prog (TpuEff nD τ sig (Elt F) (Pipeline.Sig Λ₀ (Fin 0) fun p => (pcfgs (F := F) p).Adm) .tc) PUnit}
    {ops : List (HloOp τ sig (Elt F))} (h : IsSeq p ops) : Line p := ⟨ops, h⟩

def c_argmax (a φ) : Line (F := F) (fn_argmax.body a φ) := by
  apply line; unfold fn_argmax.body; hlo_seq

def c_clip (a b e φ) : Line (F := F) (fn_clip.body a b e φ) := by
  apply line; unfold fn_clip.body; hlo_seq

def c_one_hot (a φ) : Line (F := F) (fn_one_hot.body a φ) := by
  apply line; unfold fn_one_hot.body; hlo_seq

def c_where (a b e φ) : Line (F := F) (fn_where.body a b e φ) := by
  apply line; unfold fn_where.body; hlo_seq

def c_where_0 (a b e φ) : Line (F := F) (fn_where_0.body a b e φ) := by
  apply line; unfold fn_where_0.body; hlo_seq

def c_where_1 (a b e φ) : Line (F := F) (fn_where_1.body a b e φ) := by
  apply line; unfold fn_where_1.body; hlo_seq

def c_where_2 (a b e φ) : Line (F := F) (fn_where_2.body a b e φ) := by
  apply line; unfold fn_where_2.body; hlo_seq

def c_where_3 (a b e φ) : Line (F := F) (fn_where_3.body a b e φ) := by
  apply line; unfold fn_where_3.body; hlo_seq

def c_where_4 (a b e φ) : Line (F := F) (fn_where_4.body a b e φ) := by
  apply line; unfold fn_where_4.body; hlo_seq

def c_where_5 (a b e φ) : Line (F := F) (fn_where_5.body a b e φ) := by
  apply line; unfold fn_where_5.body; hlo_seq

def c_where_6 (a b e φ) : Line (F := F) (fn_where_6.body a b e φ) := by
  apply line; unfold fn_where_6.body; hlo_seq

def c_where_7 (a b e φ) : Line (F := F) (fn_where_7.body a b e φ) := by
  apply line; unfold fn_where_7.body; hlo_seq

def c_clip_8 (a b e φ) : Line (F := F) (fn_clip_8.body a b e φ) := by
  apply line; unfold fn_clip_8.body; hlo_seq

def c_where_9 (a b e φ) : Line (F := F) (fn_where_9.body a b e φ) := by
  apply line; unfold fn_where_9.body; hlo_seq

def part0 (c : Dev nD) : Line (F := F) (main_part0 c) := by
  apply line; unfold main_part0
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part1 (c : Dev nD) : Line (F := F) (main_part1 c) := by
  apply line; unfold main_part1
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part2 (c : Dev nD) : Line (F := F) (main_part2 c) := by
  apply line; unfold main_part2
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part3 (c : Dev nD) : Line (F := F) (main_part3 c) := by
  apply line; unfold main_part3
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part4 (c : Dev nD) : Line (F := F) (main_part4 c) := by
  apply line; unfold main_part4
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part5 (c : Dev nD) : Line (F := F) (main_part5 c) := by
  apply line; unfold main_part5
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part6 (c : Dev nD) : Line (F := F) (main_part6 c) := by
  apply line; unfold main_part6
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

def part7 (c : Dev nD) : Line (F := F) (main_part7 c) := by
  apply line; unfold main_part7
  repeat (first | exact IsSeq.nil | exact isSeq_last | apply IsSeq.cons
                | refine isSeq_then (c_argmax (F := F) _ _).2 ?_
                | refine isSeq_then (c_clip (F := F) _ _ _ _).2 ?_
                | refine isSeq_then (c_one_hot (F := F) _ _).2 ?_
                | refine isSeq_then (c_where (F := F) _ _ _ _).2 ?_
                | refine isSeq_then (c_where_0 (F := F) _ _ _ _).2 ?_
                | refine isSeq_then (c_where_1 (F := F) _ _ _ _).2 ?_
                | refine isSeq_then (c_where_2 (F := F) _ _ _ _).2 ?_
                | refine isSeq_then (c_where_3 (F := F) _ _ _ _).2 ?_
                | refine isSeq_then (c_where_4 (F := F) _ _ _ _).2 ?_
                | refine isSeq_then (c_where_5 (F := F) _ _ _ _).2 ?_
                | refine isSeq_then (c_where_6 (F := F) _ _ _ _).2 ?_
                | refine isSeq_then (c_where_7 (F := F) _ _ _ _).2 ?_
                | refine isSeq_then (c_clip_8 (F := F) _ _ _ _).2 ?_
                | refine isSeq_then (c_where_9 (F := F) _ _ _ _).2 ?_)

theorem part0_bufs (c : Dev nD) : (part0 (F := F) c).1.Forall fun op => op.bufs ⊆ tcRefs τ sig := by
  simp [part0, line, c_argmax, c_clip, c_one_hot, c_where, c_where_0, c_where_1, c_where_2, c_where_3, c_where_4, c_where_5,
    c_where_6, c_where_7, c_clip_8, c_where_9]

theorem part0_fresh (c : Dev nD) : (part0 (F := F) c).1.Forall fun op => op.fresh = ∅ := forall_fresh_of_map rfl

theorem part1_bufs (c : Dev nD) : (part1 (F := F) c).1.Forall fun op => op.bufs ⊆ tcRefs τ sig := by
  simp [part1, line, c_argmax, c_clip, c_one_hot, c_where, c_where_0, c_where_1, c_where_2, c_where_3, c_where_4, c_where_5,
    c_where_6, c_where_7, c_clip_8, c_where_9]

theorem part1_fresh (c : Dev nD) : (part1 (F := F) c).1.Forall fun op => op.fresh = ∅ := forall_fresh_of_map rfl

theorem part2_bufs (c : Dev nD) : (part2 (F := F) c).1.Forall fun op => op.bufs ⊆ tcRefs τ sig := by
  simp [part2, line, c_argmax, c_clip, c_one_hot, c_where, c_where_0, c_where_1, c_where_2, c_where_3, c_where_4, c_where_5,
    c_where_6, c_where_7, c_clip_8, c_where_9]

theorem part2_fresh (c : Dev nD) : (part2 (F := F) c).1.Forall fun op => op.fresh = ∅ := forall_fresh_of_map rfl

theorem part3_bufs (c : Dev nD) : (part3 (F := F) c).1.Forall fun op => op.bufs ⊆ tcRefs τ sig := by
  simp [part3, line, c_argmax, c_clip, c_one_hot, c_where, c_where_0, c_where_1, c_where_2, c_where_3, c_where_4, c_where_5,
    c_where_6, c_where_7, c_clip_8, c_where_9]

theorem part3_fresh (c : Dev nD) : (part3 (F := F) c).1.Forall fun op => op.fresh = ∅ := forall_fresh_of_map rfl

theorem part4_bufs (c : Dev nD) : (part4 (F := F) c).1.Forall fun op => op.bufs ⊆ tcRefs τ sig := by
  simp [part4, line, c_argmax, c_clip, c_one_hot, c_where, c_where_0, c_where_1, c_where_2, c_where_3, c_where_4, c_where_5,
    c_where_6, c_where_7, c_clip_8, c_where_9]

theorem part4_fresh (c : Dev nD) : (part4 (F := F) c).1.Forall fun op => op.fresh = ∅ := forall_fresh_of_map rfl

theorem part5_bufs (c : Dev nD) : (part5 (F := F) c).1.Forall fun op => op.bufs ⊆ tcRefs τ sig := by
  simp [part5, line, c_argmax, c_clip, c_one_hot, c_where, c_where_0, c_where_1, c_where_2, c_where_3, c_where_4, c_where_5,
    c_where_6, c_where_7, c_clip_8, c_where_9]

theorem part5_fresh (c : Dev nD) : (part5 (F := F) c).1.Forall fun op => op.fresh = ∅ := forall_fresh_of_map rfl

theorem part6_bufs (c : Dev nD) : (part6 (F := F) c).1.Forall fun op => op.bufs ⊆ tcRefs τ sig := by
  simp [part6, line, c_argmax, c_clip, c_one_hot, c_where, c_where_0, c_where_1, c_where_2, c_where_3, c_where_4, c_where_5,
    c_where_6, c_where_7, c_clip_8, c_where_9]

theorem part6_fresh (c : Dev nD) : (part6 (F := F) c).1.Forall fun op => op.fresh = ∅ := forall_fresh_of_map rfl

theorem part7_bufs (c : Dev nD) : (part7 (F := F) c).1.Forall fun op => op.bufs ⊆ tcRefs τ sig := by
  simp [part7, line, c_argmax, c_clip, c_one_hot, c_where, c_where_0, c_where_1, c_where_2, c_where_3, c_where_4, c_where_5,
    c_where_6, c_where_7, c_clip_8, c_where_9]

theorem part7_fresh (c : Dev nD) : (part7 (F := F) c).1.Forall fun op => op.fresh = ∅ := forall_fresh_of_map rfl

/-- The whole program's operations. -/
def ops (c : Dev nD) : List (HloOp τ sig (Elt F)) :=
  (part0 c).1 ++ ((part1 c).1 ++ ((part2 c).1 ++ ((part3 c).1 ++ ((part4 c).1 ++ ((part5 c).1 ++ ((part6 c).1 ++ (part7 c).1))))))

theorem isSeq_main (c : Dev nD) : IsSeq (main (F := F) c) (ops c) :=
  isSeq_then (part0 c).2 (isSeq_then (part1 c).2 (isSeq_then (part2 c).2 (isSeq_then (part3 c).2 (isSeq_then (part4 c).2
    (isSeq_then (part5 c).2 (isSeq_then (part6 c).2 (part7 c).2))))))

/-! ## The line in stages, cut where few values are still needed -/

abbrev Ops := List (HloOp τ sig (Elt F))
/-- The overlaps of anchors and boxes. -/
def s1 (c : Dev nD) : Ops (F := F) := (part0 c).1 ++ (part1 c).1.take 18
/-- Each anchor's best box. -/
def s2 (c : Dev nD) : Ops (F := F) := ((part1 c).1.drop 18).take 7
/-- Which anchors are positive, and how many. -/
def s3 (c : Dev nD) : Ops (F := F) := ((part1 c).1.drop 25).take 12
/-- The pairs of indices of the best boxes. -/
def s4 (c : Dev nD) : Ops (F := F) := ((part1 c).1.drop 37).take 17
/-- The best boxes. -/
def s5 (c : Dev nD) : Ops (F := F) := (part1 c).1.drop 54 ++ (part2 c).1.take 2
/-- The classification loss. -/
def s6 (c : Dev nD) : Ops (F := F) := ((part2 c).1.drop 2).take 69
/-- The regression targets before their scaling. -/
def s7 (c : Dev nD) : Ops (F := F) := (part2 c).1.drop 71 ++ (part3 c).1.take 32
/-- The regression loss. -/
def s7b (c : Dev nD) : Ops (F := F) := (part3 c).1.drop 32 ++ (part4 c).1.take 5
/-- The moved anchors. -/
def s8 (c : Dev nD) : Ops (F := F) := (part4 c).1.drop 5 ++ (part5 c).1.take 11
/-- The pairs of indices again. -/
def s9 (c : Dev nD) : Ops (F := F) := ((part5 c).1.drop 11).take 19
/-- The boxes in use. -/
def s10 (c : Dev nD) : Ops (F := F) := ((part5 c).1.drop 30).take 5
/-- The location loss. -/
def s11 (c : Dev nD) : Ops (F := F) := (part5 c).1.drop 35 ++ (part6 c).1.take 57
/-- The three means. -/
def s12 (c : Dev nD) : Ops (F := F) := (part6 c).1.drop 57 ++ (part7 c).1

theorem ops_eq (c : Dev nD) : ops (F := F) c = s1 c ++ (s2 c ++ (s3 c ++ (s4 c ++ (s5 c ++ (s6 c ++ (s7 c ++ (s7b c ++ (s8 c ++ (s9 c
    ++ (s10 c ++ (s11 c ++ s12 c))))))))))) := rfl

theorem ops_bufs (c : Dev nD) : (ops (F := F) c).Forall fun op => op.bufs ⊆ tcRefs τ sig := by
  simp only [ops, List.forall_append]
  exact ⟨part0_bufs c, part1_bufs c, part2_bufs c, part3_bufs c, part4_bufs c, part5_bufs c, part6_bufs c, part7_bufs c⟩

theorem ops_fresh (c : Dev nD) : (ops (F := F) c).Forall fun op => op.fresh = ∅ := by
  simp only [ops, List.forall_append]
  exact ⟨part0_fresh c, part1_fresh c, part2_fresh c, part3_fresh c, part4_fresh c, part5_fresh c, part6_fresh c, part7_fresh c⟩

/-- The contents at the launch. -/
def W0 (m : (ℓ : Loc nD τ sig) → Buf (Elt F) ℓ) (c : Dev nD) : Valuation τ sig (Elt F) := launchContents m c
/-- The contents after stage 1. -/
def W1 (m : (ℓ : Loc nD τ sig) → Buf (Elt F) ℓ) (c : Dev nD) : Valuation τ sig (Elt F) := after (s1 c) (W0 m c)
/-- The contents after stage 2. -/
def W2 (m : (ℓ : Loc nD τ sig) → Buf (Elt F) ℓ) (c : Dev nD) : Valuation τ sig (Elt F) := after (s2 c) (W1 m c)
/-- The contents after stage 3. -/
def W3 (m : (ℓ : Loc nD τ sig) → Buf (Elt F) ℓ) (c : Dev nD) : Valuation τ sig (Elt F) := after (s3 c) (W2 m c)
/-- The contents after stage 4. -/
def W4 (m : (ℓ : Loc nD τ sig) → Buf (Elt F) ℓ) (c : Dev nD) : Valuation τ sig (Elt F) := after (s4 c) (W3 m c)
/-- The contents after stage 5. -/
def W5 (m : (ℓ : Loc nD τ sig) → Buf (Elt F) ℓ) (c : Dev nD) : Valuation τ sig (Elt F) := after (s5 c) (W4 m c)
/-- The contents after stage 6. -/
def W6 (m : (ℓ : Loc nD τ sig) → Buf (Elt F) ℓ) (c : Dev nD) : Valuation τ sig (Elt F) := after (s6 c) (W5 m c)
/-- The contents after stage 7. -/
def W7 (m : (ℓ : Loc nD τ sig) → Buf (Elt F) ℓ) (c : Dev nD) : Valuation τ sig (Elt F) := after (s7 c) (W6 m c)
/-- The contents after stage 7's second half. -/
def W7b (m : (ℓ : Loc nD τ sig) → Buf (Elt F) ℓ) (c : Dev nD) : Valuation τ sig (Elt F) := after (s7b c) (W7 m c)
/-- The contents after stage 8. -/
def W8 (m : (ℓ : Loc nD τ sig) → Buf (Elt F) ℓ) (c : Dev nD) : Valuation τ sig (Elt F) := after (s8 c) (W7b m c)
/-- The contents after stage 9. -/
def W9 (m : (ℓ : Loc nD τ sig) → Buf (Elt F) ℓ) (c : Dev nD) : Valuation τ sig (Elt F) := after (s9 c) (W8 m c)
/-- The contents after stage 10. -/
def W10 (m : (ℓ : Loc nD τ sig) → Buf (Elt F) ℓ) (c : Dev nD) : Valuation τ sig (Elt F) := after (s10 c) (W9 m c)
/-- The contents after stage 11. -/
def W11 (m : (ℓ : Loc nD τ sig) → Buf (Elt F) ℓ) (c : Dev nD) : Valuation τ sig (Elt F) := after (s11 c) (W10 m c)
/-- The contents after stage 12. -/
def W12 (m : (ℓ : Loc nD τ sig) → Buf (Elt F) ℓ) (c : Dev nD) : Valuation τ sig (Elt F) := after (s12 c) (W11 m c)

theorem after_cat (l₁ l₂ : List (HloOp τ sig (Elt F))) (V : Valuation τ sig (Elt F)) :
    after (l₁ ++ l₂) V = after l₂ (after l₁ V) := by
  induction l₁ generalizing V with
  | nil => rfl
  | cons op l ih => exact ih _

/-- The program runs to the contents after the last stage, every counter at zero. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = W12 m d (Proc.devRef .tc b) := by
  refine θ_run_mono (run_seq (by decide) (by decide) defs main (fun d => ops d) (fun d => isSeq_main d) (fun d => ops_bufs d) m ρ
    (fun d => List.forall_iff_forall_mem.1 (ops_fresh d))) ?_
  intro r h d b
  rw [h d b, ops_eq]
  simp only [after_cat]
  rfl

end Cert.ReferenceIdeal.Hand

end
-- ==== Proof.RVal.lean ====
module

public import proofs.«01_k».proof.Proof.RRun
public import proofs.«01_k».proof.Proof.Spec
public import Idealize.ShloMosaic.Lib.Pointwise
public import Idealize.ShloMosaic.Lib.StableHlo.ReadAt
public import Idealize.ShloMosaic.Lib.Routing.OpsPair

@[expose] public section

set_option maxRecDepth 16384
set_option maxHeartbeats 4000000

noncomputable section

namespace Cert.ReferenceIdeal.Hand

open Idealize.ShloMosaic Idealize.SL.Sem Idealize.ShloMosaic.StableHlo
open Cert.ReferenceIdeal Cert.ReferenceIdeal.Gen Cert.Spec

variable (V : Valuation τ sig (Elt Ideal)) (m : (ℓ : Loc nD τ sig) → Buf (Elt Ideal) ℓ) (c : Dev nD)

/-- The class scores. -/
abbrev A0 : FVec Ideal S8x49104x80 .f32 := W0 m c (Proc.devRef .tc main_arg0)
/-- The regressions. -/
abbrev A1 : FVec Ideal S8x49104x4 .f32 := W0 m c (Proc.devRef .tc main_arg1)
/-- The location scores. -/
abbrev A2 : FVec Ideal S8x49104x1 .f32 := W0 m c (Proc.devRef .tc main_arg2)
/-- The anchors. -/
abbrev A3 : FVec Ideal S1x49104x4 .f32 := W0 m c (Proc.devRef .tc main_arg3)
/-- The annotations. -/
abbrev A4 : FVec Ideal S8x32x5 .f32 := W0 m c (Proc.devRef .tc main_arg4)

/-! ## The reads of each stage -/

theorem x71 (b : Fin 8) (n : Fin 49104) (g : Fin 32) : (after (s1 c) V (Proc.devRef .tc main_v71) : FVec Ideal S8x49104x32 .f32) (ix3 b n g)
      = iou (ancs (V (Proc.devRef .tc main_arg3)) n) (gts (V (Proc.devRef .tc main_arg4)) b g) := by
  after_reads_at
  rfl
theorem x18 (n : Fin 49104) : (after (s1 c) V (Proc.devRef .tc main_v18) : FVec Ideal S49104 .f32) (ix1 n)
      = ancs (V (Proc.devRef .tc main_arg3)) n 2 - ancs (V (Proc.devRef .tc main_arg3)) n 0 := by
  after_reads_at
  rfl
theorem x19 (n : Fin 49104) : (after (s1 c) V (Proc.devRef .tc main_v19) : FVec Ideal S49104 .f32) (ix1 n)
      = ancs (V (Proc.devRef .tc main_arg3)) n 3 - ancs (V (Proc.devRef .tc main_arg3)) n 1 := by
  after_reads_at
  rfl
theorem x22 (n : Fin 49104) : (after (s1 c) V (Proc.devRef .tc main_v22) : FVec Ideal S49104 .f32) (ix1 n)
      = ancs (V (Proc.devRef .tc main_arg3)) n 0 + lit 0x3F000000#32 * (ancs (V (Proc.devRef .tc main_arg3)) n 2 - ancs (V (Proc.devRef .tc main_arg3)) n 0) := by
  after_reads_at
  rfl
theorem x25 (n : Fin 49104) : (after (s1 c) V (Proc.devRef .tc main_v25) : FVec Ideal S49104 .f32) (ix1 n)
      = ancs (V (Proc.devRef .tc main_arg3)) n 1 + lit 0x3F000000#32 * (ancs (V (Proc.devRef .tc main_arg3)) n 3 - ancs (V (Proc.devRef .tc main_arg3)) n 1) := by
  after_reads_at
  rfl
theorem x9 (b : Fin 8) (g : Fin 32) : (after (s1 c) V (Proc.devRef .tc main_v9) : FVec Ideal S8x32 .f32) (ix2 b g)
      = gts (V (Proc.devRef .tc main_arg4)) b g 0 := by
  after_reads_at
  rfl
theorem x11 (b : Fin 8) (g : Fin 32) : (after (s1 c) V (Proc.devRef .tc main_v11) : FVec Ideal S8x32 .f32) (ix2 b g)
      = gts (V (Proc.devRef .tc main_arg4)) b g 1 := by
  after_reads_at
  rfl
theorem x13 (b : Fin 8) (g : Fin 32) : (after (s1 c) V (Proc.devRef .tc main_v13) : FVec Ideal S8x32 .f32) (ix2 b g)
      = gts (V (Proc.devRef .tc main_arg4)) b g 2 := by
  after_reads_at
  rfl
theorem x15 (b : Fin 8) (g : Fin 32) : (after (s1 c) V (Proc.devRef .tc main_v15) : FVec Ideal S8x32 .f32) (ix2 b g)
      = gts (V (Proc.devRef .tc main_arg4)) b g 3 := by
  after_reads_at
  rfl
theorem x17 (b : Fin 8) : (after (s1 c) V (Proc.devRef .tc main_v17) : IVec S8x1 32) (ix2 b 0)
      = BitVec.ofNat 32 b.val := by
  after_reads_at

theorem xcst (k : Fin 4) : (after (s1 c) V (Proc.devRef .tc main_cst) : FVec Ideal S4 .f32) (ix1 k)
      = scale k := by
  after_reads_at
  fin_cases k <;> rfl
theorem x72 (b : Fin 8) (n : Fin 49104) : (after (s2 c) V (Proc.devRef .tc main_v72) : FVec Ideal S8x49104 .f32) (ix2 b n)
      = peak fun g => (V (Proc.devRef .tc main_v71) : FVec Ideal S8x49104x32 .f32) (ix3 b n g) := by
  after_reads_at
  rfl
theorem argmax_step : reducer_argmax_f32_i32 (F := Ideal) = step := by
  funext a b
  have h : FloatOps.cmpf (F := Ideal) (φ := .f32) .une a.1 a.1 = 0#1 := by simp [Ideal.cmpf_def, Ideal.cmp]
  have h1 : FloatOps.cmpf (F := Ideal) (φ := .f32) .ogt a.1 b.1 = bit (b.1 < a.1) := by
    rw [Ideal.cmpf_def, ← bit_of]; rfl
  have h2 : FloatOps.cmpf (F := Ideal) (φ := .f32) .oeq a.1 b.1 = bit (a.1 = b.1) := by
    rw [Ideal.cmpf_def, ← bit_of]; rfl
  unfold reducer_argmax_f32_i32 step
  simp only [h, h1, h2]
  have h3 : ∀ x : BitVec 1, IntOp.ori x 0#1 = x := by decide
  simp only [h3]

theorem drop_last (b : Fin 8) (n : Fin 49104) (i : S8x49104x32.Idx)
    (h : Facts₀.reducesTo_S8x49104x32_S8x49104_d2.drop i = ix2 b n) : ∃ g : Fin 32, i = ix3 b n g := by
  refine ⟨i 2, funext fun k => ?_⟩
  have h0 := congrFun h 0
  have h1 := congrFun h 1
  match k with
  | ⟨0, _⟩ => exact h0
  | ⟨1, _⟩ => exact h1
  | ⟨2, _⟩ => rfl

theorem x73 (f : Fin 32 → EReal) (b : Fin 8) (n : Fin 49104)
    (hf : ∀ g, (V (Proc.devRef .tc main_v71) : FVec Ideal S8x49104x32 .f32) (ix3 b n g) = f g) :
    (after (s2 c) V (Proc.devRef .tc main_v73) : IVec S8x49104 32) (ix2 b n) = BitVec.ofNat 32 (first f).val := by
  after_reads_at
  rw [Ideal.argReduce_eq_reduce2, Host.reduce2_eq_foldl_fiber, argmax_step]
  have e : (constant (F := Ideal) S_ .f32 0xFF800000#32 (Shape.Idx.first Facts₀.h_S_), constantI S_ 32 0#32 (Shape.Idx.first Facts₀.h_S_))
      = ((⊥ : EReal), 0#32) := Prod.ext lit_bot rfl
  rw [e]
  refine search_first f _ ?_ ?_
  · intro p hp
    obtain ⟨k, hk, rfl⟩ := List.mem_map.1 hp
    have hd := of_decide_eq_true (List.mem_filter.1 hk).2
    obtain ⟨g, hg⟩ := drop_last b n _ hd
    refine ⟨g, ?_⟩
    rw [hg]
    exact Prod.ext (hf g) rfl
  · intro g
    refine List.mem_map.2 ⟨S8x49104x32.rowMajor (ix3 b n g), List.mem_filter.2 ⟨List.mem_finRange _, ?_⟩, ?_⟩
    · rw [Equiv.symm_apply_apply]
      refine decide_eq_true (funext fun k => ?_)
      match k with
      | ⟨0, _⟩ => rfl
      | ⟨1, _⟩ => rfl
    · rw [Equiv.symm_apply_apply]
      exact Prod.ext (hf g) rfl
theorem x75 (b : Fin 8) (n : Fin 49104) : (after (s3 c) V (Proc.devRef .tc main_v75) : IVec S8x49104 1) (ix2 b n)
      = bit (lit 0x3F000000#32 ≤ (V (Proc.devRef .tc main_v72) : FVec Ideal S8x49104 .f32) (ix2 b n)) := by
  after_reads_at
  exact bit_of _
theorem x77 (b : Fin 8) (n : Fin 49104) : (after (s3 c) V (Proc.devRef .tc main_v77) : IVec S8x49104 1) (ix2 b n)
      = bit (@LT.lt EReal _ ((V (Proc.devRef .tc main_v72) : FVec Ideal S8x49104 .f32) (ix2 b n)) (lit 0x3ECCCCCD#32)) := by
  after_reads_at
  exact bit_of _
theorem x78 (b : Fin 8) (n : Fin 49104) : (after (s3 c) V (Proc.devRef .tc main_v78) : FVec Ideal S8x49104 .f32) (ix2 b n)
      = ind (lit 0x3F000000#32 ≤ (V (Proc.devRef .tc main_v72) : FVec Ideal S8x49104 .f32) (ix2 b n)) := by
  after_reads_at
  rw [bit_of]
  exact unsigned_ind _
theorem x79 (b : Fin 8) : (after (s3 c) V (Proc.devRef .tc main_v79) : FVec Ideal S8 .f32) (ix1 b)
      = ∑ n, ind (lit 0x3F000000#32 ≤ (V (Proc.devRef .tc main_v72) : FVec Ideal S8x49104 .f32) (ix2 b n)) := by
  after_reads_at
  simp only [bit_of, unsigned_ind]
theorem x81 (b : Fin 8) : (after (s3 c) V (Proc.devRef .tc main_v81) : FVec Ideal S8 .f32) (ix1 b)
      = max (∑ n, ind (lit 0x3F000000#32 ≤ (V (Proc.devRef .tc main_v72) : FVec Ideal S8x49104 .f32) (ix2 b n))) 1 := by
  after_reads_at
  simp only [bit_of, unsigned_ind]
theorem wrap_small (n k : ℕ) (h : n < 2 ^ 31) : Scalar.select (IntOp.cmpi .slt (BitVec.ofNat 32 n) 0#32)
      (IntOp.addi (BitVec.ofNat 32 n) (BitVec.ofNat 32 k)) (BitVec.ofNat 32 n) = BitVec.ofNat 32 n := by
  rw [cmpi_slt, select_false]
  rw [toInt_small n h]
  simp
theorem x93 (b : Fin 8) (n : Fin 49104) (h : (V (Proc.devRef .tc main_v17) : IVec S8x1 32) (ix2 b 0) = BitVec.ofNat 32 b.val) :
    (after (s4 c) V (Proc.devRef .tc main_v93) : IVec S8x49104x1 32) (ix3 b n 0) = BitVec.ofNat 32 b.val := by
  after_reads_at
  rw [h]
  exact wrap_small _ 8 (by omega)
theorem x94 (b : Fin 8) (n : Fin 49104) (g : Fin 32) (h : (V (Proc.devRef .tc main_v73) : IVec S8x49104 32) (ix2 b n) = BitVec.ofNat 32 g.val) :
    (after (s4 c) V (Proc.devRef .tc main_v94) : IVec S8x49104x1 32) (ix3 b n 0) = BitVec.ofNat 32 g.val := by
  after_reads_at
  rw [h]
  exact wrap_small _ 32 (by omega)
theorem x269 (b : Fin 8) (n : Fin 49104) (h : (V (Proc.devRef .tc main_v17) : IVec S8x1 32) (ix2 b 0) = BitVec.ofNat 32 b.val) :
    (after (s9 c) V (Proc.devRef .tc main_v269) : IVec S8x49104x1 32) (ix3 b n 0) = BitVec.ofNat 32 b.val := by
  after_reads_at
  rw [h]
  exact wrap_small _ 8 (by omega)
theorem x270 (b : Fin 8) (n : Fin 49104) (g : Fin 32) (h : (V (Proc.devRef .tc main_v73) : IVec S8x49104 32) (ix2 b n) = BitVec.ofNat 32 g.val) :
    (after (s9 c) V (Proc.devRef .tc main_v270) : IVec S8x49104x1 32) (ix3 b n 0) = BitVec.ofNat 32 g.val := by
  after_reads_at
  rw [h]
  exact wrap_small _ 32 (by omega)

end Cert.ReferenceIdeal.Hand

end
-- ==== Proof.RMore.lean ====
module

public import proofs.«01_k».proof.Proof.RVal
public import proofs.«01_k».proof.Proof.Spec
public import Idealize.ShloMosaic.Lib.Pointwise
public import Idealize.ShloMosaic.Lib.StableHlo.ReadAt
public import Idealize.ShloMosaic.Lib.Routing.OpsPair

@[expose] public section

set_option maxRecDepth 16384
set_option maxHeartbeats 4000000

noncomputable section

namespace Cert.ReferenceIdeal.Hand

open Idealize.ShloMosaic Idealize.SL.Sem Idealize.ShloMosaic.StableHlo
open Cert.ReferenceIdeal Cert.ReferenceIdeal.Gen Cert.Spec

variable (V : Valuation τ sig (Elt Ideal)) (c : Dev nD)

theorem gather_start (idx : IVec S8x49104x2 32) (b : Fin 8) (n : Fin 49104) (k : Fin 5) (q : Fin 2) :
    gather_S8x32x5_S8x49104x2_S8x49104x5_2_01_n_n_01_2_115.siIdx (ix3 b n k) q = ix3 b n q := by
  funext e
  match e with
  | ⟨0, _⟩ => rfl
  | ⟨1, _⟩ => rfl
  | ⟨2, _⟩ => rfl

theorem gather_box (x : FVec Ideal S8x32x5 .f32) (idx : IVec S8x49104x2 32) (b b' : Fin 8) (n : Fin 49104) (g : Fin 32) (k : Fin 5)
    (h0 : idx (ix3 b n 0) = BitVec.ofNat 32 b'.val) (h1 : idx (ix3 b n 1) = BitVec.ofNat 32 g.val) :
    Host.gather gather_S8x32x5_S8x49104x2_S8x49104x5_2_01_n_n_01_2_115 x idx (ix3 b n k) = x (ix3 b' g k) := by
  unfold Host.gather
  refine congrArg x (funext fun a => Fin.ext ?_)
  have hs : ∀ q : Fin 2, gather_S8x32x5_S8x49104x2_S8x49104x5_2_01_n_n_01_2_115.siIdx (ix3 b n k) q = ix3 b n q := gather_start idx b n k
  match a with
  | ⟨0, _⟩ =>
    show min (idx (gather_S8x32x5_S8x49104x2_S8x49104x5_2_01_n_n_01_2_115.siIdx (ix3 b n k) (0 : Fin 2))).toInt.toNat (8 - 1) + 0 + 0 = b'.val
    rw [hs, h0, toInt_small _ (by omega)]
    have := b'.isLt
    omega
  | ⟨1, _⟩ =>
    show min (idx (gather_S8x32x5_S8x49104x2_S8x49104x5_2_01_n_n_01_2_115.siIdx (ix3 b n k) (1 : Fin 2))).toInt.toNat (32 - 1) + 0 + 0 = g.val
    rw [hs, h1, toInt_small _ (by omega)]
    have := g.isLt
    omega
  | ⟨2, _⟩ =>
    show 0 + 0 + k.val = k.val
    omega

theorem pair_left (u v : IVec S8x49104x1 32) (h : Shape.Concatenates [S8x49104x1, S8x49104x1] S8x49104x2 2) (b : Fin 8) (n : Fin 49104) :
    concatenate S8x49104x2 2 [⟨S8x49104x1, u⟩, ⟨S8x49104x1, v⟩] h (ix3 b n 0) = u (ix3 b n 0) := by
  pointwise
theorem pair_right (u v : IVec S8x49104x1 32) (h : Shape.Concatenates [S8x49104x1, S8x49104x1] S8x49104x2 2) (b : Fin 8) (n : Fin 49104) :
    concatenate S8x49104x2 2 [⟨S8x49104x1, u⟩, ⟨S8x49104x1, v⟩] h (ix3 b n 1) = v (ix3 b n 0) := by
  pointwise

theorem x98 (b : Fin 8) (n : Fin 49104) (g : Fin 32)
    (h0 : (V (Proc.devRef .tc main_v93) : IVec S8x49104x1 32) (ix3 b n 0) = BitVec.ofNat 32 b.val)
    (h1 : (V (Proc.devRef .tc main_v94) : IVec S8x49104x1 32) (ix3 b n 0) = BitVec.ofNat 32 g.val) :
    (after (s5 c) V (Proc.devRef .tc main_v98) : FVec Ideal S8x49104 .f32) (ix2 b n) = gts (V (Proc.devRef .tc main_arg4)) b g 0 := by
  after_reads_at
  rw [upto_zero]
  exact gather_box _ _ b b n g 0 ((pair_left _ _ _ b n).trans h0) ((pair_right _ _ _ b n).trans h1)
theorem x100 (b : Fin 8) (n : Fin 49104) (g : Fin 32)
    (h0 : (V (Proc.devRef .tc main_v93) : IVec S8x49104x1 32) (ix3 b n 0) = BitVec.ofNat 32 b.val)
    (h1 : (V (Proc.devRef .tc main_v94) : IVec S8x49104x1 32) (ix3 b n 0) = BitVec.ofNat 32 g.val) :
    (after (s5 c) V (Proc.devRef .tc main_v100) : FVec Ideal S8x49104 .f32) (ix2 b n) = gts (V (Proc.devRef .tc main_arg4)) b g 1 := by
  after_reads_at
  rw [upto_zero]
  exact gather_box _ _ b b n g 1 ((pair_left _ _ _ b n).trans h0) ((pair_right _ _ _ b n).trans h1)
theorem x102 (b : Fin 8) (n : Fin 49104) (g : Fin 32)
    (h0 : (V (Proc.devRef .tc main_v93) : IVec S8x49104x1 32) (ix3 b n 0) = BitVec.ofNat 32 b.val)
    (h1 : (V (Proc.devRef .tc main_v94) : IVec S8x49104x1 32) (ix3 b n 0) = BitVec.ofNat 32 g.val) :
    (after (s5 c) V (Proc.devRef .tc main_v102) : FVec Ideal S8x49104 .f32) (ix2 b n) = gts (V (Proc.devRef .tc main_arg4)) b g 2 := by
  after_reads_at
  rw [upto_zero]
  exact gather_box _ _ b b n g 2 ((pair_left _ _ _ b n).trans h0) ((pair_right _ _ _ b n).trans h1)
theorem x104 (b : Fin 8) (n : Fin 49104) (g : Fin 32)
    (h0 : (V (Proc.devRef .tc main_v93) : IVec S8x49104x1 32) (ix3 b n 0) = BitVec.ofNat 32 b.val)
    (h1 : (V (Proc.devRef .tc main_v94) : IVec S8x49104x1 32) (ix3 b n 0) = BitVec.ofNat 32 g.val) :
    (after (s5 c) V (Proc.devRef .tc main_v104) : FVec Ideal S8x49104 .f32) (ix2 b n) = gts (V (Proc.devRef .tc main_arg4)) b g 3 := by
  after_reads_at
  rw [upto_zero]
  exact gather_box _ _ b b n g 3 ((pair_left _ _ _ b n).trans h0) ((pair_right _ _ _ b n).trans h1)
theorem x106 (b : Fin 8) (n : Fin 49104) (g : Fin 32)
    (h0 : (V (Proc.devRef .tc main_v93) : IVec S8x49104x1 32) (ix3 b n 0) = BitVec.ofNat 32 b.val)
    (h1 : (V (Proc.devRef .tc main_v94) : IVec S8x49104x1 32) (ix3 b n 0) = BitVec.ofNat 32 g.val) :
    (after (s5 c) V (Proc.devRef .tc main_v106) : FVec Ideal S8x49104 .f32) (ix2 b n) = (V (Proc.devRef .tc main_arg4) : FVec Ideal S8x32x5 .f32) (ix3 b g 4) := by
  after_reads_at
  rw [upto_zero]
  exact gather_box _ _ b b n g 4 ((pair_left _ _ _ b n).trans h0) ((pair_right _ _ _ b n).trans h1)
theorem idx2_eq {a b : ℕ} (i : Fin a) (j : Fin b) : (ValueIdx.ix2 i j : (⟨2, ![a, b]⟩ : Shape).Idx) = ix2 i j := by
  funext k
  match k with
  | ⟨0, _⟩ => rfl
  | ⟨1, _⟩ => rfl
theorem idx3_eq {a b d : ℕ} (i : Fin a) (j : Fin b) (k : Fin d) :
    (ValueIdx.ix3 i j k : (⟨3, ![a, b, d]⟩ : Shape).Idx) = ix3 i j k := by
  funext k
  match k with
  | ⟨0, _⟩ => rfl
  | ⟨1, _⟩ => rfl
  | ⟨2, _⟩ => rfl

theorem lands (idx : IVec S8x49104x2 32) (q : Fin 8 → Fin 49104 → Fin 32)
    (h0 : ∀ b n, idx (ix3 b n 0) = BitVec.ofNat 32 b.val) (h1 : ∀ b n, idx (ix3 b n 1) = BitVec.ofNat 32 (q b n).val)
    (b b' : Fin 8) (g : Fin 32) (n : Fin 49104) :
    scatter_S8x32_S8x49104x2_S8x49104_n_01_01_2.resultIdx? (ix2 b' n) idx = some (ix2 b g) ↔ b' = b ∧ q b' n = g := by
  have h := Routing.scatter_lands2 scatter_S8x32_S8x49104x2_S8x49104_n_01_01_2 rfl rfl rfl idx b' n b g
  rw [idx2_eq, idx2_eq, idx3_eq, idx3_eq, h0, h1, toInt_small _ (by omega), toInt_small _ (by omega)] at h
  rw [h, Fin.ext_iff, Fin.ext_iff]
  omega

theorem scatter_box (x : FVec Ideal S8x32 .f32) (idx : IVec S8x49104x2 32) (u : FVec Ideal S8x49104 .f32) (q : Fin 8 → Fin 49104 → Fin 32)
    (h0 : ∀ b n, idx (ix3 b n 0) = BitVec.ofNat 32 b.val) (h1 : ∀ b n, idx (ix3 b n 1) = BitVec.ofNat 32 (q b n).val)
    (b : Fin 8) (g : Fin 32) :
    Host.scatterAdd scatter_S8x32_S8x49104x2_S8x49104_n_01_01_2 x idx u (ix2 b g)
      = x (ix2 b g) + ∑ n, ind (q b n = g) * u (ix2 b n) := by
  classical
  unfold Host.scatterAdd
  rw [Ideal.hostScatterAdd_def]
  unfold Ideal.hostScatterAdd
  refine congrArg (x (ix2 b g) + ·) ?_
  rw [Finset.sum_filter]
  refine (sum_idx2 _).trans ?_
  rw [Finset.sum_eq_single b]
  · refine Finset.sum_congr rfl fun n _ => ?_
    by_cases h : q b n = g
    · rw [if_pos ((lands idx q h0 h1 b b g n).2 ⟨rfl, h⟩), ind_true h, one_mul]
    · rw [if_neg (fun e => h ((lands idx q h0 h1 b b g n).1 e).2), ind_false h, zero_mul]
  · intro b' _ hb
    refine Finset.sum_eq_zero fun n _ => ?_
    rw [if_neg (fun e => hb ((lands idx q h0 h1 b b' g n).1 e).1)]
  · intro h
    exact absurd (Finset.mem_univ _) h

theorem x274 (b : Fin 8) (g : Fin 32) (p : Fin 8 → Fin 49104 → EReal) (q : Fin 8 → Fin 49104 → Fin 32)
    (h0 : ∀ b n, (V (Proc.devRef .tc main_v269) : IVec S8x49104x1 32) (ix3 b n 0) = BitVec.ofNat 32 b.val)
    (h1 : ∀ b n, (V (Proc.devRef .tc main_v270) : IVec S8x49104x1 32) (ix3 b n 0) = BitVec.ofNat 32 (q b n).val)
    (h2 : (V (Proc.devRef .tc main_v257) : FVec Ideal S8x32 .f32) (ix2 b g) = (0 : EReal))
    (h3 : ∀ b n, (V (Proc.devRef .tc main_v78) : FVec Ideal S8x49104 .f32) (ix2 b n) = p b n) :
    (after (s10 c) V (Proc.devRef .tc main_v274) : IVec S8x32 1) (ix2 b g)
      = bit (0 < ∑ n, ind (q b n = g) * p b n) := by
  after_reads_at
  rw [upto_zero, scatter_box _ _ _ q (fun b n => (pair_left _ _ _ b n).trans (h0 b n)) (fun b n => (pair_right _ _ _ b n).trans (h1 b n)), h2,
    bit_of]
  simp only [h3]
  exact bit_congr (by rw [zero_add])

/-! ## The classification loss -/

theorem x139 (b : Fin 8) (n : Fin 49104) (k : Fin 80) (P N : Prop) (x : EReal) (l : BitVec 32)
    (hp : (V (Proc.devRef .tc main_v75) : IVec S8x49104 1) (ix2 b n) = bit P)
    (hn : (V (Proc.devRef .tc main_v77) : IVec S8x49104 1) (ix2 b n) = bit N)
    (hl : Ideal.fptosi 32 ((V (Proc.devRef .tc main_v106) : FVec Ideal S8x49104 .f32) (ix2 b n)) = l)
    (hx : (V (Proc.devRef .tc main_arg0) : FVec Ideal S8x49104x80 .f32) (ix3 b n k) = x)
    (h1 : lit 0x38D1B717#32 ≤ x) (h2 : x ≤ lit 0x3F7FF972#32) :
    (after (s6 c) V (Proc.devRef .tc main_v139) : FVec Ideal S8x49104x80 .f32) (ix3 b n k)
      = open Classical in if P then (if l = BitVec.ofNat 32 k.val then f1 x else f0 x) else ind N * f0 x := by
  after_reads_at
  simp only [id]
  pointwise
  show focal (Scalar.select ((V (Proc.devRef .tc main_v75) : IVec S8x49104 1) (ix2 b n))
      (FloatOps.uitofp (F := Ideal) .f32 (IntOp.cmpi .eq (Ideal.fptosi 32 ((V (Proc.devRef .tc main_v106) : FVec Ideal S8x49104 .f32) (ix2 b n)))
        (BitVec.ofNat 32 k.val)))
      (Scalar.select ((V (Proc.devRef .tc main_v77) : IVec S8x49104 1) (ix2 b n)) 0 (lit 0xBF800000#32)))
    (clip ((V (Proc.devRef .tc main_arg0) : FVec Ideal S8x49104x80 .f32) (ix3 b n k))) = _
  rw [hp, hn, hl, hx, clip_of_range h1 h2, cmpi_eq, unsigned_ind]
  by_cases p : P
  · rw [select_true p, if_pos p]
    by_cases e : l = BitVec.ofNat 32 k.val
    · rw [ind_true e, if_pos e, focal_one h1 h2]
    · rw [ind_false e, if_neg e, focal_zero h1 h2]
  · rw [select_false p, if_neg p]
    by_cases q : N
    · rw [select_true q, ind_true q, one_mul, focal_zero h1 h2]
    · rw [select_false q, ind_false q, zero_mul, focal_none]

theorem x141 (b : Fin 8) (t : Fin 49104 → Fin 80 → EReal) (d : EReal)
    (ht : ∀ n k, (after (s6 c) V (Proc.devRef .tc main_v139) : FVec Ideal S8x49104x80 .f32) (ix3 b n k) = t n k)
    (hd : (V (Proc.devRef .tc main_v81) : FVec Ideal S8 .f32) (ix1 b) = d) :
    (after (s6 c) V (Proc.devRef .tc main_v141) : FVec Ideal S8 .f32) (ix1 b) = Ideal.div (∑ n, ∑ k, t n k) d := by
  have h : (after (s6 c) V (Proc.devRef .tc main_v141) : FVec Ideal S8 .f32) (ix1 b)
      = Ideal.div (∑ n : Fin 49104, ∑ k : Fin 80, (after (s6 c) V (Proc.devRef .tc main_v139) : FVec Ideal S8x49104x80 .f32) (ix3 b n k))
        ((V (Proc.devRef .tc main_v81) : FVec Ideal S8 .f32) (ix1 b)) := by
    after_reads_at
  rw [h, hd]
  simp only [ht]

/-! ## The regression loss -/

theorem x174 (b : Fin 8) (n : Fin 49104) (a g : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (h98 : (V (Proc.devRef .tc main_v98) : FVec Ideal S8x49104 .f32) (ix2 b n) = g 0)
    (h100 : (V (Proc.devRef .tc main_v100) : FVec Ideal S8x49104 .f32) (ix2 b n) = g 1)
    (h102 : (V (Proc.devRef .tc main_v102) : FVec Ideal S8x49104 .f32) (ix2 b n) = g 2)
    (h104 : (V (Proc.devRef .tc main_v104) : FVec Ideal S8x49104 .f32) (ix2 b n) = g 3) :
    (after (s7 c) V (Proc.devRef .tc main_v174) : FVec Ideal S8x49104x1 .f32) (ix3 b n 0) = offs a g 0 := by
  after_reads_at
  simp only [h18, h22, h98, h102]
  rfl

theorem x175 (b : Fin 8) (n : Fin 49104) (a g : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (h98 : (V (Proc.devRef .tc main_v98) : FVec Ideal S8x49104 .f32) (ix2 b n) = g 0)
    (h100 : (V (Proc.devRef .tc main_v100) : FVec Ideal S8x49104 .f32) (ix2 b n) = g 1)
    (h102 : (V (Proc.devRef .tc main_v102) : FVec Ideal S8x49104 .f32) (ix2 b n) = g 2)
    (h104 : (V (Proc.devRef .tc main_v104) : FVec Ideal S8x49104 .f32) (ix2 b n) = g 3) :
    (after (s7 c) V (Proc.devRef .tc main_v175) : FVec Ideal S8x49104x1 .f32) (ix3 b n 0) = offs a g 1 := by
  after_reads_at
  simp only [h19, h25, h100, h104]
  rfl

theorem x176 (b : Fin 8) (n : Fin 49104) (a g : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (h98 : (V (Proc.devRef .tc main_v98) : FVec Ideal S8x49104 .f32) (ix2 b n) = g 0)
    (h100 : (V (Proc.devRef .tc main_v100) : FVec Ideal S8x49104 .f32) (ix2 b n) = g 1)
    (h102 : (V (Proc.devRef .tc main_v102) : FVec Ideal S8x49104 .f32) (ix2 b n) = g 2)
    (h104 : (V (Proc.devRef .tc main_v104) : FVec Ideal S8x49104 .f32) (ix2 b n) = g 3) :
    (after (s7 c) V (Proc.devRef .tc main_v176) : FVec Ideal S8x49104x1 .f32) (ix3 b n 0) = offs a g 2 := by
  after_reads_at
  simp only [h18, h98, h102]
  rfl

theorem x177 (b : Fin 8) (n : Fin 49104) (a g : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (h98 : (V (Proc.devRef .tc main_v98) : FVec Ideal S8x49104 .f32) (ix2 b n) = g 0)
    (h100 : (V (Proc.devRef .tc main_v100) : FVec Ideal S8x49104 .f32) (ix2 b n) = g 1)
    (h102 : (V (Proc.devRef .tc main_v102) : FVec Ideal S8x49104 .f32) (ix2 b n) = g 2)
    (h104 : (V (Proc.devRef .tc main_v104) : FVec Ideal S8x49104 .f32) (ix2 b n) = g 3) :
    (after (s7 c) V (Proc.devRef .tc main_v177) : FVec Ideal S8x49104x1 .f32) (ix3 b n 0) = offs a g 3 := by
  after_reads_at
  simp only [h19, h100, h104]
  rfl

theorem x200 (b : Fin 8) (P : Fin 49104 → Prop) (a g r : Fin 49104 → Box) (p d : EReal)
    (hc : ∀ k, (V (Proc.devRef .tc main_cst) : FVec Ideal S4 .f32) (ix1 k) = scale k)
    (hp : ∀ n, (V (Proc.devRef .tc main_v75) : IVec S8x49104 1) (ix2 b n) = bit (P n))
    (h0 : ∀ n, (V (Proc.devRef .tc main_v174) : FVec Ideal S8x49104x1 .f32) (ix3 b n 0) = offs (a n) (g n) 0)
    (h1 : ∀ n, (V (Proc.devRef .tc main_v175) : FVec Ideal S8x49104x1 .f32) (ix3 b n 0) = offs (a n) (g n) 1)
    (h2 : ∀ n, (V (Proc.devRef .tc main_v176) : FVec Ideal S8x49104x1 .f32) (ix3 b n 0) = offs (a n) (g n) 2)
    (h3 : ∀ n, (V (Proc.devRef .tc main_v177) : FVec Ideal S8x49104x1 .f32) (ix3 b n 0) = offs (a n) (g n) 3)
    (hr : ∀ n k, (V (Proc.devRef .tc main_arg1) : FVec Ideal S8x49104x4 .f32) (ix3 b n k) = r n k)
    (h79 : (V (Proc.devRef .tc main_v79) : FVec Ideal S8 .f32) (ix1 b) = p)
    (h81 : (V (Proc.devRef .tc main_v81) : FVec Ideal S8 .f32) (ix1 b) = d) :
    (after (s7b c) V (Proc.devRef .tc main_v200) : FVec Ideal S8 .f32) (ix1 b)
      = open Classical in if 0 < p then Ideal.div (∑ n, ∑ k, ind (P n) * smooth (gap (a n) (g n) (r n) k)) (d * lit 0x40800000#32) else 0 := by
  after_reads_at
  simp only [id]
  pointwise
  simp only [upto_zero, h79, h81, smooth_of]
  by_cases hq : 0 < p
  · rw [if_pos hq, if_pos hq]
    refine congrArg₂ Ideal.div (Finset.sum_congr rfl fun n _ => Finset.sum_congr rfl fun k _ => ?_) rfl
    rw [hp]
    by_cases hP : P n
    case neg => rw [select_false hP, ind_false hP, zero_mul]
    rw [select_true hP, ind_true hP, one_mul]
    match k with
    | ⟨0, _⟩ =>
      show smooth (max (Ideal.div ((V (Proc.devRef .tc main_v174) : FVec Ideal S8x49104x1 .f32) (ix3 b n 0)) ((V (Proc.devRef .tc main_cst) : FVec Ideal S4 .f32) (ix1 0)) - (V (Proc.devRef .tc main_arg1) : FVec Ideal S8x49104x4 .f32) (ix3 b n 0))
        (-(Ideal.div ((V (Proc.devRef .tc main_v174) : FVec Ideal S8x49104x1 .f32) (ix3 b n 0)) ((V (Proc.devRef .tc main_cst) : FVec Ideal S4 .f32) (ix1 0)) - (V (Proc.devRef .tc main_arg1) : FVec Ideal S8x49104x4 .f32) (ix3 b n 0)))) = _
      rw [h0, hc, hr]
      rfl
    | ⟨1, _⟩ =>
      show smooth (max (Ideal.div ((V (Proc.devRef .tc main_v175) : FVec Ideal S8x49104x1 .f32) (ix3 b n 0)) ((V (Proc.devRef .tc main_cst) : FVec Ideal S4 .f32) (ix1 1)) - (V (Proc.devRef .tc main_arg1) : FVec Ideal S8x49104x4 .f32) (ix3 b n 1))
        (-(Ideal.div ((V (Proc.devRef .tc main_v175) : FVec Ideal S8x49104x1 .f32) (ix3 b n 0)) ((V (Proc.devRef .tc main_cst) : FVec Ideal S4 .f32) (ix1 1)) - (V (Proc.devRef .tc main_arg1) : FVec Ideal S8x49104x4 .f32) (ix3 b n 1)))) = _
      rw [h1, hc, hr]
      rfl
    | ⟨2, _⟩ =>
      show smooth (max (Ideal.div ((V (Proc.devRef .tc main_v176) : FVec Ideal S8x49104x1 .f32) (ix3 b n 0)) ((V (Proc.devRef .tc main_cst) : FVec Ideal S4 .f32) (ix1 2)) - (V (Proc.devRef .tc main_arg1) : FVec Ideal S8x49104x4 .f32) (ix3 b n 2))
        (-(Ideal.div ((V (Proc.devRef .tc main_v176) : FVec Ideal S8x49104x1 .f32) (ix3 b n 0)) ((V (Proc.devRef .tc main_cst) : FVec Ideal S4 .f32) (ix1 2)) - (V (Proc.devRef .tc main_arg1) : FVec Ideal S8x49104x4 .f32) (ix3 b n 2)))) = _
      rw [h2, hc, hr]
      rfl
    | ⟨3, _⟩ =>
      show smooth (max (Ideal.div ((V (Proc.devRef .tc main_v177) : FVec Ideal S8x49104x1 .f32) (ix3 b n 0)) ((V (Proc.devRef .tc main_cst) : FVec Ideal S4 .f32) (ix1 3)) - (V (Proc.devRef .tc main_arg1) : FVec Ideal S8x49104x4 .f32) (ix3 b n 3))
        (-(Ideal.div ((V (Proc.devRef .tc main_v177) : FVec Ideal S8x49104x1 .f32) (ix3 b n 0)) ((V (Proc.devRef .tc main_cst) : FVec Ideal S4 .f32) (ix1 3)) - (V (Proc.devRef .tc main_arg1) : FVec Ideal S8x49104x4 .f32) (ix3 b n 3)))) = _
      rw [h3, hc, hr]
      rfl
  · rw [if_neg hq, if_neg hq]

/-! ## The location loss -/

theorem x241 (b : Fin 8) (n : Fin 49104) (a r : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (hr : ∀ k, (V (Proc.devRef .tc main_arg1) : FVec Ideal S8x49104x4 .f32) (ix3 b n k) = r k) :
    (after (s8 c) V (Proc.devRef .tc main_v241) : FVec Ideal S8x49104 .f32) (ix2 b n) = move a r 0 := by
  after_reads_at
  simp only [h18, h22, hr]
  rfl

theorem x246 (b : Fin 8) (n : Fin 49104) (a r : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (hr : ∀ k, (V (Proc.devRef .tc main_arg1) : FVec Ideal S8x49104x4 .f32) (ix3 b n k) = r k) :
    (after (s8 c) V (Proc.devRef .tc main_v246) : FVec Ideal S8x49104 .f32) (ix2 b n) = move a r 1 := by
  after_reads_at
  simp only [h19, h25, hr]
  rfl

theorem x251 (b : Fin 8) (n : Fin 49104) (a r : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (hr : ∀ k, (V (Proc.devRef .tc main_arg1) : FVec Ideal S8x49104x4 .f32) (ix3 b n k) = r k) :
    (after (s8 c) V (Proc.devRef .tc main_v251) : FVec Ideal S8x49104 .f32) (ix2 b n) = move a r 2 := by
  after_reads_at
  simp only [h18, h22, hr]
  rfl

theorem x256 (b : Fin 8) (n : Fin 49104) (a r : Box)
    (h18 : (V (Proc.devRef .tc main_v18) : FVec Ideal S49104 .f32) (ix1 n) = a 2 - a 0)
    (h19 : (V (Proc.devRef .tc main_v19) : FVec Ideal S49104 .f32) (ix1 n) = a 3 - a 1)
    (h22 : (V (Proc.devRef .tc main_v22) : FVec Ideal S49104 .f32) (ix1 n) = a 0 + lit 0x3F000000#32 * (a 2 - a 0))
    (h25 : (V (Proc.devRef .tc main_v25) : FVec Ideal S49104 .f32) (ix1 n) = a 1 + lit 0x3F000000#32 * (a 3 - a 1))
    (hr : ∀ k, (V (Proc.devRef .tc main_arg1) : FVec Ideal S8x49104x4 .f32) (ix3 b n k) = r k) :
    (after (s8 c) V (Proc.devRef .tc main_v256) : FVec Ideal S8x49104 .f32) (ix2 b n) = move a r 3 := by
  after_reads_at
  simp only [h19, h25, hr]
  rfl

theorem x257 (b : Fin 8) (g : Fin 32) : (after (s9 c) V (Proc.devRef .tc main_v257) : FVec Ideal S8x32 .f32) (ix2 b g) = (0 : EReal) := by
  after_reads_at

theorem x332 (b : Fin 8) (P : Fin 49104 → Prop) (U : Fin 32 → Prop) (a r : Fin 49104 → Box) (G : Fin 32 → Box) (l : Fin 49104 → EReal) (p d : EReal)
    (hp : ∀ n, (V (Proc.devRef .tc main_v75) : IVec S8x49104 1) (ix2 b n) = bit (P n))
    (hu : ∀ g, (V (Proc.devRef .tc main_v274) : IVec S8x32 1) (ix2 b g) = bit (U g))
    (m0 : ∀ n, (V (Proc.devRef .tc main_v241) : FVec Ideal S8x49104 .f32) (ix2 b n) = move (a n) (r n) 0)
    (m1 : ∀ n, (V (Proc.devRef .tc main_v246) : FVec Ideal S8x49104 .f32) (ix2 b n) = move (a n) (r n) 1)
    (m2 : ∀ n, (V (Proc.devRef .tc main_v251) : FVec Ideal S8x49104 .f32) (ix2 b n) = move (a n) (r n) 2)
    (m3 : ∀ n, (V (Proc.devRef .tc main_v256) : FVec Ideal S8x49104 .f32) (ix2 b n) = move (a n) (r n) 3)
    (g0 : ∀ g, (V (Proc.devRef .tc main_v9) : FVec Ideal S8x32 .f32) (ix2 b g) = G g 0)
    (g1 : ∀ g, (V (Proc.devRef .tc main_v11) : FVec Ideal S8x32 .f32) (ix2 b g) = G g 1)
    (g2 : ∀ g, (V (Proc.devRef .tc main_v13) : FVec Ideal S8x32 .f32) (ix2 b g) = G g 2)
    (g3 : ∀ g, (V (Proc.devRef .tc main_v15) : FVec Ideal S8x32 .f32) (ix2 b g) = G g 3)
    (hl : ∀ n, (V (Proc.devRef .tc main_arg2) : FVec Ideal S8x49104x1 .f32) (ix3 b n 0) = l n)
    (h79 : (V (Proc.devRef .tc main_v79) : FVec Ideal S8 .f32) (ix1 b) = p)
    (h81 : (V (Proc.devRef .tc main_v81) : FVec Ideal S8 .f32) (ix1 b) = d) :
    (after (s11 c) V (Proc.devRef .tc main_v332) : FVec Ideal S8 .f32) (ix1 b)
      = open Classical in if 0 < p then Ideal.div (∑ n, ind (P n) * locTerm G U (a n) (r n) (l n)) d else 0 := by
  after_reads_at
  simp only [id]
  pointwise
  simp only [hp, hu, m0, m1, m2, m3, g0, g1, g2, g3, hl, h79, h81]
  by_cases hq : 0 < p
  · rw [if_pos hq, if_pos hq]
    refine congrArg (fun z => Ideal.div z _) (Finset.sum_congr rfl fun n _ => ?_)
    by_cases hP : P n
    case neg => rw [select_false hP, ind_false hP, zero_mul]
    rw [select_true hP, ind_true hP, one_mul]
    have e : ∀ (g : Fin 32) (z : EReal), Scalar.select (bit (U g)) z (Ideal.ofBits .f32 0xBF800000#32)
        = open Classical in if U g then z else lit 0xBF800000#32 := fun g z => by
      by_cases hU : U g
      · rw [select_true hU, if_pos hU]
      · rw [select_false hU, if_neg hU]
    simp only [e]
    rfl
  · rw [if_neg hq, if_neg hq]

/-! ## The means -/

theorem x335 (f : Fin 8 → EReal) (h : ∀ b, (V (Proc.devRef .tc main_v141) : FVec Ideal S8 .f32) (ix1 b) = f b) :
    (after (s12 c) V (Proc.devRef .tc main_v335) : FVec Ideal S1x1 .f32) (ix2 0 0) = mean f := by
  after_reads_at
  simp only [h]
  rfl
theorem x338 (f : Fin 8 → EReal) (h : ∀ b, (V (Proc.devRef .tc main_v200) : FVec Ideal S8 .f32) (ix1 b) = f b) :
    (after (s12 c) V (Proc.devRef .tc main_v338) : FVec Ideal S1x1 .f32) (ix2 0 0) = mean f := by
  after_reads_at
  simp only [h]
  rfl
theorem x341 (f : Fin 8 → EReal) (h : ∀ b, (V (Proc.devRef .tc main_v332) : FVec Ideal S8 .f32) (ix1 b) = f b) :
    (after (s12 c) V (Proc.devRef .tc main_v341) : FVec Ideal S1x1 .f32) (ix2 0 0) = mean f := by
  after_reads_at
  simp only [h]
  rfl

end Cert.ReferenceIdeal.Hand

end
-- ==== Proof.RAll.lean ====
module

public import proofs.«01_k».proof.Proof.RMore
public import proofs.«01_k».proof.Proof.Spec
public import Idealize.ShloMosaic.Lib.Pointwise
public import Idealize.ShloMosaic.Lib.StableHlo.ReadAt
public import Idealize.ShloMosaic.Lib.Routing.OpsPair

@[expose] public section

set_option maxRecDepth 16384
set_option maxHeartbeats 4000000

noncomputable section

namespace Cert.ReferenceIdeal.Hand

open Idealize.ShloMosaic Idealize.SL.Sem Idealize.ShloMosaic.StableHlo
open Cert.ReferenceIdeal Cert.ReferenceIdeal.Gen Cert.Spec

variable (m : (ℓ : Loc nD τ sig) → Buf (Elt Ideal) ℓ) (c : Dev nD)

/-! ## Buffers that stages leave alone -/

theorem keep1 : W3 m c (Proc.devRef .tc main_v17) = W1 m c (Proc.devRef .tc main_v17) := by
  unfold W3 W2
  after_reads_simp
theorem keep2 : W3 m c (Proc.devRef .tc main_v73) = W2 m c (Proc.devRef .tc main_v73) := by
  unfold W3
  after_reads_simp
theorem keep3 : W4 m c (Proc.devRef .tc main_arg4) = W0 m c (Proc.devRef .tc main_arg4) := by
  unfold W4 W3 W2 W1
  after_reads_simp
theorem keep4 : W5 m c (Proc.devRef .tc main_v75) = W3 m c (Proc.devRef .tc main_v75) ∧
    W5 m c (Proc.devRef .tc main_v77) = W3 m c (Proc.devRef .tc main_v77) ∧
    W5 m c (Proc.devRef .tc main_v81) = W3 m c (Proc.devRef .tc main_v81) := by
  unfold W5 W4
  refine ⟨?_, ?_, ?_⟩ <;> after_reads_simp
theorem keep5 : W5 m c (Proc.devRef .tc main_arg0) = W0 m c (Proc.devRef .tc main_arg0) := by
  unfold W5 W4 W3 W2 W1
  after_reads_simp
theorem keep6 : W6 m c (Proc.devRef .tc main_v98) = W5 m c (Proc.devRef .tc main_v98) ∧
    W6 m c (Proc.devRef .tc main_v100) = W5 m c (Proc.devRef .tc main_v100) ∧
    W6 m c (Proc.devRef .tc main_v102) = W5 m c (Proc.devRef .tc main_v102) ∧
    W6 m c (Proc.devRef .tc main_v104) = W5 m c (Proc.devRef .tc main_v104) := by
  unfold W6
  refine ⟨?_, ?_, ?_, ?_⟩ <;> after_reads_simp
theorem keep7 : W6 m c (Proc.devRef .tc main_v18) = W1 m c (Proc.devRef .tc main_v18) ∧
    W6 m c (Proc.devRef .tc main_v19) = W1 m c (Proc.devRef .tc main_v19) ∧
    W6 m c (Proc.devRef .tc main_v22) = W1 m c (Proc.devRef .tc main_v22) ∧
    W6 m c (Proc.devRef .tc main_v25) = W1 m c (Proc.devRef .tc main_v25) := by
  unfold W6 W5 W4 W3 W2
  refine ⟨?_, ?_, ?_, ?_⟩ <;> after_reads_simp
theorem keep8 : W7 m c (Proc.devRef .tc main_cst) = W1 m c (Proc.devRef .tc main_cst) := by
  unfold W7 W6 W5 W4 W3 W2
  after_reads_simp
theorem keep9 : W7 m c (Proc.devRef .tc main_v75) = W3 m c (Proc.devRef .tc main_v75) ∧
    W7 m c (Proc.devRef .tc main_v79) = W3 m c (Proc.devRef .tc main_v79) ∧
    W7 m c (Proc.devRef .tc main_v81) = W3 m c (Proc.devRef .tc main_v81) := by
  unfold W7 W6 W5 W4
  refine ⟨?_, ?_, ?_⟩ <;> after_reads_simp
theorem keep10 : W7 m c (Proc.devRef .tc main_arg1) = W0 m c (Proc.devRef .tc main_arg1) := by
  unfold W7 W6 W5 W4 W3 W2 W1
  after_reads_simp
theorem keep11 : W7b m c (Proc.devRef .tc main_v18) = W1 m c (Proc.devRef .tc main_v18) ∧
    W7b m c (Proc.devRef .tc main_v19) = W1 m c (Proc.devRef .tc main_v19) ∧
    W7b m c (Proc.devRef .tc main_v22) = W1 m c (Proc.devRef .tc main_v22) ∧
    W7b m c (Proc.devRef .tc main_v25) = W1 m c (Proc.devRef .tc main_v25) := by
  unfold W7b W7 W6 W5 W4 W3 W2
  refine ⟨?_, ?_, ?_, ?_⟩ <;> after_reads_simp
theorem keep12 : W7b m c (Proc.devRef .tc main_arg1) = W0 m c (Proc.devRef .tc main_arg1) := by
  unfold W7b W7 W6 W5 W4 W3 W2 W1
  after_reads_simp
theorem keep13 : W8 m c (Proc.devRef .tc main_v17) = W1 m c (Proc.devRef .tc main_v17) := by
  unfold W8 W7b W7 W6 W5 W4 W3 W2
  after_reads_simp
theorem keep14 : W8 m c (Proc.devRef .tc main_v73) = W2 m c (Proc.devRef .tc main_v73) := by
  unfold W8 W7b W7 W6 W5 W4 W3
  after_reads_simp
theorem keep15 : W9 m c (Proc.devRef .tc main_v78) = W3 m c (Proc.devRef .tc main_v78) := by
  unfold W9 W8 W7b W7 W6 W5 W4
  after_reads_simp
theorem keep16 : W10 m c (Proc.devRef .tc main_v9) = W1 m c (Proc.devRef .tc main_v9) ∧
    W10 m c (Proc.devRef .tc main_v11) = W1 m c (Proc.devRef .tc main_v11) ∧
    W10 m c (Proc.devRef .tc main_v13) = W1 m c (Proc.devRef .tc main_v13) ∧
    W10 m c (Proc.devRef .tc main_v15) = W1 m c (Proc.devRef .tc main_v15) := by
  unfold W10 W9 W8 W7b W7 W6 W5 W4 W3 W2
  refine ⟨?_, ?_, ?_, ?_⟩ <;> after_reads_simp
theorem keep17 : W10 m c (Proc.devRef .tc main_v241) = W8 m c (Proc.devRef .tc main_v241) ∧
    W10 m c (Proc.devRef .tc main_v246) = W8 m c (Proc.devRef .tc main_v246) ∧
    W10 m c (Proc.devRef .tc main_v251) = W8 m c (Proc.devRef .tc main_v251) ∧
    W10 m c (Proc.devRef .tc main_v256) = W8 m c (Proc.devRef .tc main_v256) := by
  unfold W10 W9
  refine ⟨?_, ?_, ?_, ?_⟩ <;> after_reads_simp
theorem keep18 : W10 m c (Proc.devRef .tc main_v75) = W3 m c (Proc.devRef .tc main_v75) ∧
    W10 m c (Proc.devRef .tc main_v79) = W3 m c (Proc.devRef .tc main_v79) ∧
    W10 m c (Proc.devRef .tc main_v81) = W3 m c (Proc.devRef .tc main_v81) := by
  unfold W10 W9 W8 W7b W7 W6 W5 W4
  refine ⟨?_, ?_, ?_⟩ <;> after_reads_simp
theorem keep19 : W10 m c (Proc.devRef .tc main_arg2) = W0 m c (Proc.devRef .tc main_arg2) := by
  unfold W10 W9 W8 W7b W7 W6 W5 W4 W3 W2 W1
  after_reads_simp
theorem keep20 : W11 m c (Proc.devRef .tc main_v141) = W6 m c (Proc.devRef .tc main_v141) := by
  unfold W11 W10 W9 W8 W7b W7
  after_reads_simp
theorem keep21 : W11 m c (Proc.devRef .tc main_v200) = W7b m c (Proc.devRef .tc main_v200) := by
  unfold W11 W10 W9 W8
  after_reads_simp
theorem keep_args : W12 m c (Proc.devRef .tc main_arg0) = W0 m c (Proc.devRef .tc main_arg0) ∧
    W12 m c (Proc.devRef .tc main_arg1) = W0 m c (Proc.devRef .tc main_arg1) ∧
    W12 m c (Proc.devRef .tc main_arg2) = W0 m c (Proc.devRef .tc main_arg2) ∧
    W12 m c (Proc.devRef .tc main_arg3) = W0 m c (Proc.devRef .tc main_arg3) ∧
    W12 m c (Proc.devRef .tc main_arg4) = W0 m c (Proc.devRef .tc main_arg4) ∧
    W12 m c (Proc.devRef .tc main_arg5) = W0 m c (Proc.devRef .tc main_arg5) := by
  unfold W12 W11 W10 W9 W8 W7b W7 W6 W5 W4 W3 W2 W1
  refine ⟨?_, ?_, ?_, ?_, ?_, ?_⟩ <;> after_reads_simp

/-! ## The stages' values -/

abbrev GB (b : Fin 8) : Fin 32 → Box := gts (A4 m c) b
abbrev AN (n : Fin 49104) : Box := ancs (A3 m c) n

theorem v72_eq (b : Fin 8) (n : Fin 49104) :
    (W2 m c (Proc.devRef .tc main_v72) : FVec Ideal S8x49104 .f32) (ix2 b n) = best (GB m c b) (AN m c n) := by
  refine (x72 (W1 m c) c b n).trans ?_
  exact congrArg peak (funext fun g => x71 (W0 m c) c b n g)
theorem v73_eq (b : Fin 8) (n : Fin 49104) :
    (W2 m c (Proc.devRef .tc main_v73) : IVec S8x49104 32) (ix2 b n) = BitVec.ofNat 32 (arg (GB m c b) (AN m c n)).val :=
  x73 (W1 m c) c _ b n fun g => x71 (W0 m c) c b n g
theorem v75_eq (b : Fin 8) (n : Fin 49104) :
    (W3 m c (Proc.devRef .tc main_v75) : IVec S8x49104 1) (ix2 b n) = bit (Pos (GB m c b) (AN m c n)) := by
  refine (x75 (W2 m c) c b n).trans ?_
  rw [v72_eq, Pos]
theorem v77_eq (b : Fin 8) (n : Fin 49104) :
    (W3 m c (Proc.devRef .tc main_v77) : IVec S8x49104 1) (ix2 b n) = bit (Neg (GB m c b) (AN m c n)) := by
  refine (x77 (W2 m c) c b n).trans ?_
  rw [v72_eq, Spec.Neg]
theorem v78_eq (b : Fin 8) (n : Fin 49104) :
    (W3 m c (Proc.devRef .tc main_v78) : FVec Ideal S8x49104 .f32) (ix2 b n) = ind (Pos (GB m c b) (AN m c n)) := by
  refine (x78 (W2 m c) c b n).trans ?_
  rw [v72_eq, Pos]
theorem v79_eq (b : Fin 8) : (W3 m c (Proc.devRef .tc main_v79) : FVec Ideal S8 .f32) (ix1 b) = npos (GB m c b) (AN m c) := by
  refine (x79 (W2 m c) c b).trans (?_ : (_ : EReal) = _)
  exact Finset.sum_congr rfl fun n _ => by rw [v72_eq, Pos]
theorem v81_eq (b : Fin 8) : (W3 m c (Proc.devRef .tc main_v81) : FVec Ideal S8 .f32) (ix1 b) = den (GB m c b) (AN m c) := by
  refine (x81 (W2 m c) c b).trans (?_ : (_ : EReal) = _)
  rw [den, npos]
  exact congrArg₂ max (Finset.sum_congr rfl fun n _ => by rw [v72_eq, Pos]) rfl

theorem v93_eq (b : Fin 8) (n : Fin 49104) :
    (W4 m c (Proc.devRef .tc main_v93) : IVec S8x49104x1 32) (ix3 b n 0) = BitVec.ofNat 32 b.val :=
  x93 (W3 m c) c b n (by rw [keep1]; exact x17 (W0 m c) c b)
theorem v94_eq (b : Fin 8) (n : Fin 49104) :
    (W4 m c (Proc.devRef .tc main_v94) : IVec S8x49104x1 32) (ix3 b n 0) = BitVec.ofNat 32 (arg (GB m c b) (AN m c n)).val :=
  x94 (W3 m c) c b n _ (by rw [keep2]; exact v73_eq m c b n)
theorem box_eq (b : Fin 8) (n : Fin 49104) :
    (W5 m c (Proc.devRef .tc main_v98) : FVec Ideal S8x49104 .f32) (ix2 b n) = GB m c b (arg (GB m c b) (AN m c n)) 0 ∧
    (W5 m c (Proc.devRef .tc main_v100) : FVec Ideal S8x49104 .f32) (ix2 b n) = GB m c b (arg (GB m c b) (AN m c n)) 1 ∧
    (W5 m c (Proc.devRef .tc main_v102) : FVec Ideal S8x49104 .f32) (ix2 b n) = GB m c b (arg (GB m c b) (AN m c n)) 2 ∧
    (W5 m c (Proc.devRef .tc main_v104) : FVec Ideal S8x49104 .f32) (ix2 b n) = GB m c b (arg (GB m c b) (AN m c n)) 3 ∧
    (W5 m c (Proc.devRef .tc main_v106) : FVec Ideal S8x49104 .f32) (ix2 b n) = A4 m c (ix3 b (arg (GB m c b) (AN m c n)) 4) := by
  have h0 := v93_eq m c b n
  have h1 := v94_eq m c b n
  refine ⟨(x98 (W4 m c) c b n _ h0 h1).trans ?_, (x100 (W4 m c) c b n _ h0 h1).trans ?_, (x102 (W4 m c) c b n _ h0 h1).trans ?_,
    (x104 (W4 m c) c b n _ h0 h1).trans ?_, (x106 (W4 m c) c b n _ h0 h1).trans ?_⟩ <;> rw [keep3]

theorem v141_eq (hx : ∀ b n k, lit 0x38D1B717#32 ≤ scores (A0 m c) b n k ∧ scores (A0 m c) b n k ≤ lit 0x3F7FF972#32) (b : Fin 8) :
    (W6 m c (Proc.devRef .tc main_v141) : FVec Ideal S8 .f32) (ix1 b)
      = clsLoss (GB m c b) (labs (A4 m c) b) (AN m c) (scores (A0 m c) b) := by
  refine (x141 (W5 m c) c b (fun n k => clsTerm (GB m c b) (labs (A4 m c) b) (AN m c n) (scores (A0 m c) b n k) k) (den (GB m c b) (AN m c)) ?_ ?_).trans rfl
  · intro n k
    refine (x139 (W5 m c) c b n k _ _ (scores (A0 m c) b n k) (labs (A4 m c) b (arg (GB m c b) (AN m c n)))
      (by rw [(keep4 m c).1]; exact v75_eq m c b n) (by rw [(keep4 m c).2.1]; exact v77_eq m c b n)
      (congrArg (Ideal.fptosi 32) (box_eq m c b n).2.2.2.2) (by rw [keep5]; rfl) (hx b n k).1 (hx b n k).2).trans rfl
  · rw [(keep4 m c).2.2]
    exact v81_eq m c b

theorem offs_eq (b : Fin 8) (n : Fin 49104) :
    (W7 m c (Proc.devRef .tc main_v174) : FVec Ideal S8x49104x1 .f32) (ix3 b n 0) = offs (AN m c n) (GB m c b (arg (GB m c b) (AN m c n))) 0 ∧
    (W7 m c (Proc.devRef .tc main_v175) : FVec Ideal S8x49104x1 .f32) (ix3 b n 0) = offs (AN m c n) (GB m c b (arg (GB m c b) (AN m c n))) 1 ∧
    (W7 m c (Proc.devRef .tc main_v176) : FVec Ideal S8x49104x1 .f32) (ix3 b n 0) = offs (AN m c n) (GB m c b (arg (GB m c b) (AN m c n))) 2 ∧
    (W7 m c (Proc.devRef .tc main_v177) : FVec Ideal S8x49104x1 .f32) (ix3 b n 0) = offs (AN m c n) (GB m c b (arg (GB m c b) (AN m c n))) 3 := by
  obtain ⟨b0, b1, b2, b3, -⟩ := box_eq m c b n
  obtain ⟨k0, k1, k2, k3⟩ := keep6 m c
  obtain ⟨j0, j1, j2, j3⟩ := keep7 m c
  have e0 := x18 (W0 m c) c n
  have e1 := x19 (W0 m c) c n
  have e2 := x22 (W0 m c) c n
  have e3 := x25 (W0 m c) c n
  rw [show after (s1 c) (W0 m c) = W1 m c from rfl] at e0 e1 e2 e3
  rw [← k0] at b0
  rw [← k1] at b1
  rw [← k2] at b2
  rw [← k3] at b3
  rw [← j0] at e0
  rw [← j1] at e1
  rw [← j2] at e2
  rw [← j3] at e3
  exact ⟨x174 (W6 m c) c b n _ _ e0 e1 e2 e3 b0 b1 b2 b3, x175 (W6 m c) c b n _ _ e0 e1 e2 e3 b0 b1 b2 b3,
    x176 (W6 m c) c b n _ _ e0 e1 e2 e3 b0 b1 b2 b3, x177 (W6 m c) c b n _ _ e0 e1 e2 e3 b0 b1 b2 b3⟩

theorem v200_eq (b : Fin 8) :
    (W7b m c (Proc.devRef .tc main_v200) : FVec Ideal S8 .f32) (ix1 b) = regLoss (GB m c b) (AN m c) (rows (A1 m c) b) := by
  refine (x200 (W7 m c) c b (fun n => Pos (GB m c b) (AN m c n)) (AN m c) (fun n => GB m c b (arg (GB m c b) (AN m c n))) (rows (A1 m c) b) _ _
    ?_ ?_ (fun n => (offs_eq m c b n).1) (fun n => (offs_eq m c b n).2.1) (fun n => (offs_eq m c b n).2.2.1) (fun n => (offs_eq m c b n).2.2.2)
    ?_ ?_ ?_).trans rfl
  · intro k
    rw [keep8]
    exact xcst (W0 m c) c k
  · intro n
    rw [(keep9 m c).1]
    exact v75_eq m c b n
  · intro n k
    rw [keep10]
    rfl
  · rw [(keep9 m c).2.1]
    exact v79_eq m c b
  · rw [(keep9 m c).2.2]
    exact v81_eq m c b

theorem move_eq (b : Fin 8) (n : Fin 49104) :
    (W8 m c (Proc.devRef .tc main_v241) : FVec Ideal S8x49104 .f32) (ix2 b n) = move (AN m c n) (rows (A1 m c) b n) 0 ∧
    (W8 m c (Proc.devRef .tc main_v246) : FVec Ideal S8x49104 .f32) (ix2 b n) = move (AN m c n) (rows (A1 m c) b n) 1 ∧
    (W8 m c (Proc.devRef .tc main_v251) : FVec Ideal S8x49104 .f32) (ix2 b n) = move (AN m c n) (rows (A1 m c) b n) 2 ∧
    (W8 m c (Proc.devRef .tc main_v256) : FVec Ideal S8x49104 .f32) (ix2 b n) = move (AN m c n) (rows (A1 m c) b n) 3 := by
  obtain ⟨j0, j1, j2, j3⟩ := keep11 m c
  have e0 := x18 (W0 m c) c n
  have e1 := x19 (W0 m c) c n
  have e2 := x22 (W0 m c) c n
  have e3 := x25 (W0 m c) c n
  rw [show after (s1 c) (W0 m c) = W1 m c from rfl] at e0 e1 e2 e3
  rw [← j0] at e0
  rw [← j1] at e1
  rw [← j2] at e2
  rw [← j3] at e3
  have hr : ∀ k, (W7b m c (Proc.devRef .tc main_arg1) : FVec Ideal S8x49104x4 .f32) (ix3 b n k) = rows (A1 m c) b n k := fun k => by
    rw [keep12]
    rfl
  exact ⟨x241 (W7b m c) c b n _ _ e0 e1 e2 e3 hr, x246 (W7b m c) c b n _ _ e0 e1 e2 e3 hr,
    x251 (W7b m c) c b n _ _ e0 e1 e2 e3 hr, x256 (W7b m c) c b n _ _ e0 e1 e2 e3 hr⟩

theorem v274_eq (b : Fin 8) (g : Fin 32) :
    (W10 m c (Proc.devRef .tc main_v274) : IVec S8x32 1) (ix2 b g) = bit (Used (GB m c b) (AN m c) g) := by
  refine (x274 (W9 m c) c b g (fun b n => ind (Pos (GB m c b) (AN m c n))) (fun b n => arg (GB m c b) (AN m c n)) ?_ ?_ ?_ ?_).trans ?_
  · exact fun b n => x269 (W8 m c) c b n (by rw [keep13]; exact x17 (W0 m c) c b)
  · exact fun b n => x270 (W8 m c) c b n _ (by rw [keep14]; exact v73_eq m c b n)
  · exact x257 (W8 m c) c b g
  · intro b n
    rw [keep15]
    exact v78_eq m c b n
  · exact bit_congr (used_iff _ _ g).symm

theorem v332_eq (b : Fin 8) :
    (W11 m c (Proc.devRef .tc main_v332) : FVec Ideal S8 .f32) (ix1 b)
      = locLoss (GB m c b) (AN m c) (rows (A1 m c) b) (locs (A2 m c) b) := by
  obtain ⟨j0, j1, j2, j3⟩ := keep16 m c
  obtain ⟨k0, k1, k2, k3⟩ := keep17 m c
  obtain ⟨l0, l1, l2⟩ := keep18 m c
  refine (x332 (W10 m c) c b (fun n => Pos (GB m c b) (AN m c n)) (Used (GB m c b) (AN m c)) (AN m c) (rows (A1 m c) b) (GB m c b)
    (locs (A2 m c) b) _ _ (fun n => by rw [l0]; exact v75_eq m c b n) (v274_eq m c b)
    (fun n => by rw [k0]; exact (move_eq m c b n).1) (fun n => by rw [k1]; exact (move_eq m c b n).2.1)
    (fun n => by rw [k2]; exact (move_eq m c b n).2.2.1) (fun n => by rw [k3]; exact (move_eq m c b n).2.2.2)
    (fun g => by rw [j0]; exact x9 (W0 m c) c b g) (fun g => by rw [j1]; exact x11 (W0 m c) c b g)
    (fun g => by rw [j2]; exact x13 (W0 m c) c b g) (fun g => by rw [j3]; exact x15 (W0 m c) c b g)
    (fun n => by rw [keep19]; rfl) (by rw [l1]; exact v79_eq m c b) (by rw [l2]; exact v81_eq m c b)).trans rfl

/-! ## The results -/

theorem cls_result (hx : ∀ b n k, lit 0x38D1B717#32 ≤ scores (A0 m c) b n k ∧ scores (A0 m c) b n k ≤ lit 0x3F7FF972#32) :
    (W12 m c (Proc.devRef .tc main_v335) : FVec Ideal S1x1 .f32) (ix2 0 0)
      = mean fun b => clsLoss (GB m c b) (labs (A4 m c) b) (AN m c) (scores (A0 m c) b) :=
  x335 (W11 m c) c _ fun b => by rw [keep20]; exact v141_eq m c hx b
theorem reg_result :
    (W12 m c (Proc.devRef .tc main_v338) : FVec Ideal S1x1 .f32) (ix2 0 0)
      = mean fun b => regLoss (GB m c b) (AN m c) (rows (A1 m c) b) :=
  x338 (W11 m c) c _ fun b => by rw [keep21]; exact v200_eq m c b
theorem loc_result :
    (W12 m c (Proc.devRef .tc main_v341) : FVec Ideal S1x1 .f32) (ix2 0 0)
      = mean fun b => locLoss (GB m c b) (AN m c) (rows (A1 m c) b) (locs (A2 m c) b) :=
  x341 (W11 m c) c _ fun b => v332_eq m c b

end Cert.ReferenceIdeal.Hand

end
-- ==== Proof.PreAll.lean ====
module

public import proofs.«01_k».proof.Defs
public import proofs.«01_k».proof.Proof.Spec

@[expose] public section

set_option maxRecDepth 16384

noncomputable section

namespace Cert.Pre_scores_and_labels_in_range

open Idealize.ShloMosaic Cert.Spec

theorem facts : Facts := ⟨by decide, by decide, by decide, by decide, by decide, by decide, by decide⟩

/-! ## A conjunction over a whole array -/

theorem both {p q : BitVec 1} : IntOp.andi p q = 1#1 ↔ p = 1#1 ∧ q = 1#1 := by revert p q; decide
theorem fold_all {ι : Type} (f : ι → BitVec 1) (l : List ι) (a : BitVec 1) (e : l.foldl (fun r n => IntOp.andi r (f n)) a = 1#1) :
    a = 1#1 ∧ ∀ n ∈ l, f n = 1#1 := by
  induction l generalizing a with
  | nil => exact ⟨e, fun n h => absurd h List.not_mem_nil⟩
  | cons y l ih =>
    have h := ih _ e
    exact ⟨(both.mp h.1).1, fun n hn => (List.mem_cons.mp hn).elim (fun q => q ▸ (both.mp h.1).2) (h.2 n)⟩
/-- A conjunction over every axis that comes out true is true of each element. -/
theorem reduce_all {s t u : Shape} {axes : List (Fin s.rank)} (x : IVec s 1) (v : IVec u 1) (h : s.ReducesTo axes t) (hu : 0 < u.numel) (j : t.Idx)
    (ht : ∀ i : t.Idx, i = j) (e : Host.reduce IntOp.andi x v h hu j = 1#1) (i : s.Idx) : x i = 1#1 := by
  have := (fold_all _ _ _ e).2 (s.rowMajor i) (List.mem_filter.mpr ⟨List.mem_finRange _, decide_eq_true (ht _)⟩)
  rwa [Equiv.symm_apply_apply] at this

theorem of_bit {q : Prop} [Decidable q] (h : BitVec.ofBool (decide q) = 1#1) : q := by
  by_contra n
  rw [decide_eq_false n] at h
  exact absurd h (by decide)
/-- A word between 0 and 79 is a class. -/
theorem class_of (w : BitVec 32) (h0 : IntOp.cmpi .sge w 0#32 = 1#1) (h1 : IntOp.cmpi .slt w 80#32 = 1#1) : ∃ k : Fin 80, w = BitVec.ofNat 32 k.val := by
  replace h0 : (0#32 : BitVec 32).toInt ≤ w.toInt := of_bit h0
  replace h1 : w.toInt < (80#32 : BitVec 32).toInt := of_bit h1
  have a : (0#32 : BitVec 32).toInt = 0 := by decide
  have b : (80#32 : BitVec 32).toInt = 80 := by decide
  rw [a] at h0
  rw [b] at h1
  rw [BitVec.toInt_eq_toNat_cond] at h0 h1
  have hw := w.isLt
  have hn : w.toNat < 80 := by split_ifs at h0 h1 <;> omega
  exact ⟨⟨w.toNat, hn⟩, (BitVec.ofNat_toNat 32 w).symm.trans rfl⟩

variable [Facts]

/-- What the precondition says of the scores and of the labels. -/
theorem read (x0 : FVec Ideal S8x49104x80 .f32) (x1 : FVec Ideal S8x49104x4 .f32) (x2 : FVec Ideal S8x49104x1 .f32) (x3 : FVec Ideal S1x49104x4 .f32)
    (x4 : FVec Ideal S8x32x5 .f32) (x5 : FVec Ideal S8x3x512x512 .f32) (e : fn (F := Ideal) x0 x1 x2 x3 x4 x5 = fun _ => 1#1) :
    (∀ b n k, lit 0x38D1B717#32 ≤ scores x0 b n k ∧ scores x0 b n k ≤ lit 0x3F7FF972#32) ∧ ∀ b g, ∃ k : Fin 80, labs x4 b g = BitVec.ofNat 32 k.val := by
  have h := both.mp (congrFun e (Shape.Idx.first Facts.h_S_))
  have one : ∀ i j : S_.Idx, i = j := fun i j => funext fun a => a.elim0
  refine ⟨fun b n k => ?_, fun b g => ?_⟩
  · have q := both.mp (reduce_all _ _ _ _ _ (fun i => one i _) h.1 (ix3 b n k))
    have q1 : Ideal.cmp .oge (x0 (ix3 b n k)) (lit 0x38D1B717#32) = 1#1 := q.1
    have q2 : Ideal.cmp .ole (x0 (ix3 b n k)) (lit 0x3F7FF972#32) = 1#1 := q.2
    exact ⟨of_bit q1, of_bit q2⟩
  · have q := both.mp (reduce_all _ _ _ _ _ (fun i => one i _) h.2 (ix2 b g))
    have e : shapeCast S8x32 (extractStridedSlice S8x32x1 ![0, 0, 4] x4 Facts.slices_S8x32x5_S8x32x1_0_0_4) Facts.shapeCasts_S8x32x1_S8x32 (ix2 b g)
        = x4 (ix3 b g (4 : Fin 5)) := by pointwise
    have q1 : IntOp.cmpi .sge (Ideal.fptosi 32 (shapeCast S8x32 (extractStridedSlice S8x32x1 ![0, 0, 4] x4 Facts.slices_S8x32x5_S8x32x1_0_0_4) Facts.shapeCasts_S8x32x1_S8x32 (ix2 b g))) 0#32 = 1#1 := q.1
    have q2 : IntOp.cmpi .slt (Ideal.fptosi 32 (shapeCast S8x32 (extractStridedSlice S8x32x1 ![0, 0, 4] x4 Facts.slices_S8x32x5_S8x32x1_0_0_4) Facts.shapeCasts_S8x32x1_S8x32 (ix2 b g))) 80#32 = 1#1 := q.2
    rw [e] at q1 q2
    exact class_of _ q1 q2

end Cert.Pre_scores_and_labels_in_range

end
-- ==== Proof.lean ====
/- The proof of the certificate's claims. The runs come from the modules `KMain`, `IMain` and `RRun`; what the two
   idealized programs compute, from `IEnd` and `RAll`; what the precondition says, from `PreAll`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KMain
public import proofs.«01_k».proof.Proof.IMain
public import proofs.«01_k».proof.Proof.IEnd
public import proofs.«01_k».proof.Proof.RAll
public import proofs.«01_k».proof.Proof.PreAll
public import Idealize.ShloMosaic.Adequacy
public import Idealize.ShloMosaic.Init

@[expose] public section

noncomputable section

namespace Cert.Proof

open Idealize.ShloMosaic Idealize.SL.Sem Cert.Spec

/-- The kernel runs, leaves its arguments unchanged and every counter at zero. -/
theorem frameK : Cert.quiescent_Kernel (hKernel := Cert.Kernel.Gen.facts) := fun m g _ =>
  (θ_run _ _ _).mono (fun _ h => ⟨fun c => (h.1 c).2, h.2⟩) (Cert.Kernel.Hand.run_all m g)

/-- So does its idealization. -/
theorem frameI : Cert.quiescent_KernelIdeal (hKernelIdeal := Cert.KernelIdeal.Gen.facts) := fun m g _ =>
  (θ_run _ _ _).mono (fun _ h => ⟨fun c => (h.1 c).2, h.2⟩) (Cert.KernelIdeal.Hand.run_all m g)

/-- And so does the reference, which has no counters. -/
theorem frameR : Cert.quiescent_ReferenceIdeal (hReferenceIdeal := Cert.ReferenceIdeal.Gen.facts) := fun m g _ =>
  (θ_run _ _ _).mono (fun r h => ⟨fun c =>
    have k := Cert.ReferenceIdeal.Hand.keep_args m c
    ⟨(h c _).trans k.1, (h c _).trans k.2.1, (h c _).trans k.2.2.1, (h c _).trans k.2.2.2.1, (h c _).trans k.2.2.2.2.1, (h c _).trans k.2.2.2.2.2⟩,
    sem_eq_zero_of_no_sems (by decide) r.2⟩) (Cert.ReferenceIdeal.Hand.run_all m g)

/-- Arrays of one element agree when that element does. -/
theorem ext1 (x y : FVec Ideal (⟨2, ![1, 1]⟩ : Shape) .f32) (h : (x (ix2 0 0) : EReal) = y (ix2 0 0)) : x = y := by
  funext i
  have e : i = ix2 0 0 := by
    funext a
    match a with
    | ⟨0, _⟩ => exact Fin.ext (Nat.lt_one_iff.mp (i 0).isLt)
    | ⟨1, _⟩ => exact Fin.ext (Nat.lt_one_iff.mp (i 1).isLt)
  rw [e]
  exact h

/-- The two idealized programs, from the same arguments, leave the same three losses. -/
theorem same : Cert.algebraic_KernelIdeal_ReferenceIdeal_pre_scores_and_labels_in_range (hKernelIdeal := Cert.KernelIdeal.Gen.facts)
    (hReferenceIdeal := Cert.ReferenceIdeal.Gen.facts) (hPre_scores_and_labels_in_range := Cert.Pre_scores_and_labels_in_range.facts) := by
  intro m g m' g' hpre hagree
  refine ⟨fun c => Cert.KernelIdeal.Hand.oc m c 7, fun c => Cert.KernelIdeal.Hand.or m c 7, fun c => Cert.KernelIdeal.Hand.ol m c 7,
    (θ_run _ _ _).mono (fun _ h c => ⟨(h.1 c).1.1, (h.1 c).1.2.1, (h.1 c).1.2.2, (h.1 c).2⟩) (Cert.KernelIdeal.Hand.run_all m g),
    (θ_run _ _ _).mono (fun r h c => ?_) (Cert.ReferenceIdeal.Hand.run_all m' g')⟩
  have k := Cert.ReferenceIdeal.Hand.keep_args m' c
  have q := letI := Cert.Pre_scores_and_labels_in_range.facts
    Cert.Pre_scores_and_labels_in_range.read _ _ _ _ _ _ (hpre c)
  have e0 : Cert.ReferenceIdeal.Hand.A0 m' c = Cert.KernelIdeal.Hand.B0 m c := (hagree c).1
  have e1 : Cert.ReferenceIdeal.Hand.A1 m' c = Cert.KernelIdeal.Hand.B1 m c := (hagree c).2.1
  have e2 : Cert.ReferenceIdeal.Hand.A2 m' c = Cert.KernelIdeal.Hand.B2 m c := (hagree c).2.2.1
  have e3 : Cert.ReferenceIdeal.Hand.A3 m' c = Cert.KernelIdeal.Hand.B3 m c := (hagree c).2.2.2.1
  have e4 : Cert.ReferenceIdeal.Hand.A4 m' c = Cert.KernelIdeal.Hand.B4 m c := (hagree c).2.2.2.2.1
  have rc := Cert.ReferenceIdeal.Hand.cls_result m' c
  have rr := Cert.ReferenceIdeal.Hand.reg_result m' c
  have rl := Cert.ReferenceIdeal.Hand.loc_result m' c
  unfold Cert.ReferenceIdeal.Hand.GB Cert.ReferenceIdeal.Hand.AN at rc rr rl
  rw [e0, e3, e4] at rc
  rw [e1, e3, e4] at rr
  rw [e1, e2, e3, e4] at rl
  exact ⟨(h c _).trans (ext1 _ _ ((rc q.1).trans (Cert.KernelIdeal.Hand.oc_mean m c q.1 q.2).symm)),
    (h c _).trans (ext1 _ _ (rr.trans (Cert.KernelIdeal.Hand.or_mean m c).symm)),
    (h c _).trans (ext1 _ _ (rl.trans (Cert.KernelIdeal.Hand.ol_mean m c).symm)),
    (h c _).trans k.1, (h c _).trans k.2.1, (h c _).trans k.2.2.1, (h c _).trans k.2.2.2.1, (h c _).trans k.2.2.2.2.1, (h c _).trans k.2.2.2.2.2⟩

theorem claim : Cert.Claim := ⟨Cert.Kernel.Gen.facts, Cert.KernelIdeal.Gen.facts, Cert.ReferenceIdeal.Gen.facts, Cert.Pre_scores_and_labels_in_range.facts,
  frameK, frameI, fun m g _ => frameI m g trivial, frameR, fun m g _ => frameR m g trivial, trivial, same⟩

end Cert.Proof

end
